-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)) (v1 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)) (v1 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_v7) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v10) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v10) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v80) = v0 c
          ∧ r.2.mem ((c.tc : Thread Cert.Reference9Ideal.nD Cert.Reference9Ideal.τ).loc Cert.Reference9Ideal.main_v83) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S8x2064x8192 : Shape := ⟨3, ![8, 2064, 8192]⟩
abbrev S8 : Shape := ⟨1, ![8]⟩
abbrev S2x8x2064x1024 : Shape := ⟨4, ![2, 8, 2064, 1024]⟩
abbrev S8x2064x1024 : Shape := ⟨3, ![8, 2064, 1024]⟩
abbrev S1x2064x128 : Shape := ⟨3, ![1, 2064, 128]⟩
abbrev S1x1x2064x128 : Shape := ⟨4, ![1, 1, 2064, 128]⟩
abbrev S1 : Shape := ⟨1, ![1]⟩
abbrev S256x256 : Shape := ⟨2, ![256, 256]⟩
abbrev S128x128 : Shape := ⟨2, ![128, 128]⟩
abbrev S1x128x128 : Shape := ⟨3, ![1, 128, 128]⟩
abbrev S128x1 : Shape := ⟨2, ![128, 1]⟩
abbrev S16x128 : Shape := ⟨2, ![16, 128]⟩
abbrev S1x16x128 : Shape := ⟨3, ![1, 16, 128]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S512x256 : Shape := ⟨2, ![512, 256]⟩

abbrev nBuf : Space → Nat
  | .hbm => 7
  | .vmem => 14
  | .smem => 1
  | _ => 0

abbrev bufTy : (tb : Table) → Fin (tcTables nBuf tb) → BufTy
  | .hbm, ⟨0, _⟩ => ⟨S8x2064x8192, .f32⟩
  | .hbm, ⟨1, _⟩ => ⟨S8, .f32⟩
  | .hbm, ⟨2, _⟩ => ⟨S2x8x2064x1024, .f32⟩
  | .hbm, ⟨3, _⟩ => ⟨S2x8x2064x1024, .f32⟩
  | .hbm, ⟨4, _⟩ => ⟨S8x2064x1024, .bf16⟩
  | .hbm, ⟨5, _⟩ => ⟨S2x8x2064x1024, .f32⟩
  | .hbm, ⟨6, _⟩ => ⟨S2x8x2064x1024, .f32⟩
  | .local _ .vmem, ⟨0, _⟩ => ⟨S1x2064x128, .f32⟩
  | .local _ .vmem, ⟨1, _⟩ => ⟨S1x2064x128, .f32⟩
  | .local _ .vmem, ⟨2, _⟩ => ⟨S1x2064x128, .f32⟩
  | .local _ .vmem, ⟨3, _⟩ => ⟨S1x2064x128, .f32⟩
  | .local _ .vmem, ⟨4, _⟩ => ⟨S1x2064x128, .f32⟩
  | .local _ .vmem, ⟨5, _⟩ => ⟨S1x2064x128, .f32⟩
  | .local _ .vmem, ⟨6, _⟩ => ⟨S1x2064x128, .f32⟩
  | .local _ .vmem, ⟨7, _⟩ => ⟨S1x2064x128, .f32⟩
  | .local _ .vmem, ⟨8, _⟩ => ⟨S1x2064x128, .bf16⟩
  | .local _ .vmem, ⟨9, _⟩ => ⟨S1x2064x128, .bf16⟩
  | .local _ .vmem, ⟨10, _⟩ => ⟨S1x1x2064x128, .f32⟩
  | .local _ .vmem, ⟨11, _⟩ => ⟨S1x1x2064x128, .f32⟩
  | .local _ .vmem, ⟨12, _⟩ => ⟨S1x1x2064x128, .f32⟩
  | .local _ .vmem, ⟨13, _⟩ => ⟨S1x1x2064x128, .f32⟩
  | .local _ .smem, ⟨0, _⟩ => ⟨S8, .f32⟩
  | _, _ => ⟨S8x2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32 : BitVec 32 := 0#32
  let c4_i32 : BitVec 32 := 4#32
  let v83 : BitVec 32 := Scalar.addi c0_i32 c4_i32
  let c1_i32 : BitVec 32 := 1#32
  ⟨c0_i32, v83, c1_i32⟩
def k0_mult1 (k0_t1 : Fin k0_t1_loop.trips) : BitVec 32 :=
  let c16_i32 : BitVec 32 := 16#32
  let c0_i32 : BitVec 32 := 0#32
  let c1_i32 : BitVec 32 := 1#32
  let arg12 : BitVec 32 := Scf.iv c0_i32 c1_i32 k0_t1
  let c512_i32 : BitVec 32 := 512#32
  let v84 : BitVec 32 := Scalar.muli arg12 c512_i32
  let v85 : BitVec 32 := Scalar.addi c16_i32 v84
  v85
def k0_off2 (k0_t1 : Fin k0_t1_loop.trips) : Fin 3 → Nat :=
  let c0_46 : Index := 0#32
  let c16_i32 : BitVec 32 := 16#32
  let c0_i32 : BitVec 32 := 0#32
  let c1_i32 : BitVec 32 := 1#32
  let arg12 : BitVec 32 := Scf.iv c0_i32 c1_i32 k0_t1
  let c512_i32 : BitVec 32 := 512#32
  let v84 : BitVec 32 := Scalar.muli arg12 c512_i32
  let v85 : BitVec 32 := Scalar.addi c16_i32 v84
  let v86 : BitVec 32 := v85
  let v87 : Index := Scalar.indexCast v86
  let c0_47 : Index := 0#32
  ![0, v87.toNat, 0]
@[reducible] def k0_t2_loop (k0_t1 : Fin k0_t1_loop.trips) : Scf.Loop 32 :=
  let c0_i32_65 : BitVec 32 := 0#32
  let c0_i32 : BitVec 32 := 0#32
  let c1_i32 : BitVec 32 := 1#32
  let arg12 : BitVec 32 := Scf.iv c0_i32 c1_i32 k0_t1
  let v155 : BitVec 32 := Scalar.subi arg12 c0_i32_65
  let c1_i32_66 : BitVec 32 := 1#32
  let v157 : BitVec 32 := Scalar.divsi v155 c1_i32_66
  let v158 : BitVec 32 := Scalar.muli v157 c1_i32_66
  let v159 : BitVec 32 := Scalar.addi c0_i32_65 v158
  let c1_i32_67 : BitVec 32 := 1#32
  ⟨c0_i32_65, v159, c1_i32_67⟩
def k0_mult2 (k0_t1 : Fin k0_t1_loop.trips) (k0_t2 : Fin (k0_t2_loop k0_t1).trips) : BitVec 32 :=
  let c16_i32_93 : BitVec 32 := 16#32
  let c0_i32 : BitVec 32 := 0#32
  let c1_i32 : BitVec 32 := 1#32
  let arg12 : BitVec 32 := Scf.iv c0_i32 c1_i32 k0_t1
  let c1_i32_91 : BitVec 32 := 1#32
  let v215 : BitVec 32 := Scalar.subi arg12 c1_i32_91
  let c0_i32_65 : BitVec 32 := 0#32
  let c1_i32_67 : BitVec 32 := 1#32
  let arg13 : BitVec 32 := Scf.iv c0_i32_65 c1_i32_67 k0_t2
  let v216 : BitVec 32 := Scalar.subi v215 arg13
  let c512_i32_92 : BitVec 32 := 512#32
  let v217 : BitVec 32 := Scalar.muli v216 c512_i32_92
  let v218 : BitVec 32 := Scalar.addi c16_i32_93 v217
  v218
def k0_off3 (k0_t1 : Fin k0_t1_loop.trips) (k0_t2 : Fin (k0_t2_loop k0_t1).trips) : Fin 3 → Nat :=
  let c0_94 : Index := 0#32
  let c16_i32_93 : BitVec 32 := 16#32
  let c0_i32 : BitVec 32 := 0#32
  let c1_i32 : BitVec 32 := 1#32
  let arg12 : BitVec 32 := Scf.iv c0_i32 c1_i32 k0_t1
  let c1_i32_91 : BitVec 32 := 1#32
  let v215 : BitVec 32 := Scalar.subi arg12 c1_i32_91
  let c0_i32_65 : BitVec 32 := 0#32
  let c1_i32_67 : BitVec 32 := 1#32
  let arg13 : BitVec 32 := Scf.iv c0_i32_65 c1_i32_67 k0_t2
  let v216 : BitVec 32 := Scalar.subi v215 arg13
  let c512_i32_92 : BitVec 32 := 512#32
  let v217 : BitVec 32 := Scalar.muli v216 c512_i32_92
  let v218 : BitVec 32 := Scalar.addi c16_i32_93 v217
  let v219 : BitVec 32 := v218
  let v220 : Index := Scalar.indexCast v219
  let c0_95 : Index := 0#32
  ![0, v220.toNat, 0]
@[reducible] def k0_t3_loop (k0_t1 : Fin k0_t1_loop.trips) : Scf.Loop 32 :=
  let c0_i32_65 : BitVec 32 := 0#32
  let c0_i32 : BitVec 32 := 0#32
  let c1_i32 : BitVec 32 := 1#32
  let arg12 : BitVec 32 := Scf.iv c0_i32 c1_i32 k0_t1
  let v155 : BitVec 32 := Scalar.subi arg12 c0_i32_65
  let c1_i32_66 : BitVec 32 := 1#32
  let v157 : BitVec 32 := Scalar.divsi v155 c1_i32_66
  let v158 : BitVec 32 := Scalar.muli v157 c1_i32_66
  let v159 : BitVec 32 := Scalar.addi c0_i32_65 v158
  let v156 : BitVec 32 := Scalar.addi c0_i32_65 v155
  let c1_i32_68 : BitVec 32 := 1#32
  ⟨v159, v156, c1_i32_68⟩
def k0_mult3 (k0_t1 : Fin k0_t1_loop.trips) (k0_t3 : Fin (k0_t3_loop k0_t1).trips) : BitVec 32 :=
  let c16_i32_93 : BitVec 32 := 16#32
  let c0_i32 : BitVec 32 := 0#32
  let c1_i32 : BitVec 32 := 1#32
  let arg12 : BitVec 32 := Scf.iv c0_i32 c1_i32 k0_t1
  let c1_i32_91 : BitVec 32 := 1#32
  let v215 : BitVec 32 := Scalar.subi arg12 c1_i32_91
  let c0_i32_65 : BitVec 32 := 0#32
  let v155 : BitVec 32 := Scalar.subi arg12 c0_i32_65
  let c1_i32_66 : BitVec 32 := 1#32
  let v157 : BitVec 32 := Scalar.divsi v155 c1_i32_66
  let v158 : BitVec 32 := Scalar.muli v157 c1_i32_66
  let v159 : BitVec 32 := Scalar.addi c0_i32_65 v158
  let c1_i32_68 : BitVec 32 := 1#32
  let arg13 : BitVec 32 := Scf.iv v159 c1_i32_68 k0_t3
  let v216 : BitVec 32 := Scalar.subi v215 arg13
  let c512_i32_92 : BitVec 32 := 512#32
  let v217 : BitVec 32 := Scalar.muli v216 c512_i32_92
  let v218 : BitVec 32 := Scalar.addi c16_i32_93 v217
  v218
def k0_off4 (k0_t1 : Fin k0_t1_loop.trips) (k0_t3 : Fin (k0_t3_loop k0_t1).trips) : Fin 3 → Nat :=
  let c0_94 : Index := 0#32
  let c16_i32_93 : BitVec 32 := 16#32
  let c0_i32 : BitVec 32 := 0#32
  let c1_i32 : BitVec 32 := 1#32
  let arg12 : BitVec 32 := Scf.iv c0_i32 c1_i32 k0_t1
  let c1_i32_91 : BitVec 32 := 1#32
  let v215 : BitVec 32 := Scalar.subi arg12 c1_i32_91
  let c0_i32_65 : BitVec 32 := 0#32
  let v155 : BitVec 32 := Scalar.subi arg12 c0_i32_65
  let c1_i32_66 : BitVec 32 := 1#32
  let v157 : BitVec 32 := Scalar.divsi v155 c1_i32_66
  let v158 : BitVec 32 := Scalar.muli v157 c1_i32_66
  let v159 : BitVec 32 := Scalar.addi c0_i32_65 v158
  let c1_i32_68 : BitVec 32 := 1#32
  let arg13 : BitVec 32 := Scf.iv v159 c1_i32_68 k0_t3
  let v216 : BitVec 32 := Scalar.subi v215 arg13
  let c512_i32_92 : BitVec 32 := 512#32
  let v217 : BitVec 32 := Scalar.muli v216 c512_i32_92
  let v218 : BitVec 32 := Scalar.addi c16_i32_93 v217
  let v219 : BitVec 32 := v218
  let v220 : Index := Scalar.indexCast v219
  let c0_95 : Index := 0#32
  ![0, v220.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2064x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2064x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2064x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2064x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2064x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2064x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x2064x8192 : Shape := ⟨3, ![8, 2064, 8192]⟩
abbrev S8 : Shape := ⟨1, ![8]⟩
abbrev S2x8x2064x1024 : Shape := ⟨4, ![2, 8, 2064, 1024]⟩
abbrev S8x2064x3072 : Shape := ⟨3, ![8, 2064, 3072]⟩
abbrev S8x2064x1024 : Shape := ⟨3, ![8, 2064, 1024]⟩
abbrev S8x2064x8x128 : Shape := ⟨4, ![8, 2064, 8, 128]⟩
abbrev S2064 : Shape := ⟨1, ![2064]⟩
abbrev S8x8x2064x2064 : Shape := ⟨4, ![8, 8, 2064, 2064]⟩
abbrev S_ : Shape := ⟨0, ![]⟩
abbrev S1x8x1x1 : Shape := ⟨4, ![1, 8, 1, 1]⟩
abbrev S1x2064 : Shape := ⟨2, ![1, 2064]⟩
abbrev S2064x1 : Shape := ⟨2, ![2064, 1]⟩
abbrev S2064x2064 : Shape := ⟨2, ![2064, 2064]⟩
abbrev S8x8x128x2064 : Shape := ⟨4, ![8, 8, 128, 2064]⟩
abbrev S1x8x2064x1024 : Shape := ⟨4, ![1, 8, 2064, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x2064x8192, .f32⟩
  | .hbm, ⟨1, _⟩ => ⟨S8, .f32⟩
  | .hbm, ⟨2, _⟩ => ⟨S2x8x2064x1024, .f32⟩
  | .hbm, ⟨3, _⟩ => ⟨S2x8x2064x1024, .f32⟩
  | .hbm, ⟨4, _⟩ => ⟨S8x2064x3072, .f32⟩
  | .hbm, ⟨5, _⟩ => ⟨S8x2064x1024, .f32⟩
  | .hbm, ⟨6, _⟩ => ⟨S8x2064x1024, .f32⟩
  | .hbm, ⟨7, _⟩ => ⟨S8x2064x8x128, .f32⟩
  | .hbm, ⟨8, _⟩ => ⟨S8x2064x1024, .f32⟩
  | .hbm, ⟨9, _⟩ => ⟨S8x2064x8x128, .f32⟩
  | .hbm, ⟨10, _⟩ => ⟨S8x2064x1024, .f32⟩
  | .hbm, ⟨11, _⟩ => ⟨S8x2064x8x128, .f32⟩
  | .hbm, ⟨12, _⟩ => ⟨S2064, .i32⟩
  | .hbm, ⟨13, _⟩ => ⟨S8x8x2064x2064, .f32⟩
  | .hbm, ⟨14, _⟩ => ⟨S_, .f32⟩
  | .hbm, ⟨15, _⟩ => ⟨S8x8x2064x2064, .f32⟩
  | .hbm, ⟨16, _⟩ => ⟨S8x8x2064x2064, .f32⟩
  | .hbm, ⟨17, _⟩ => ⟨S1x8x1x1, .f32⟩
  | .hbm, ⟨18, _⟩ => ⟨S8x8x2064x2064, .f32⟩
  | .hbm, ⟨19, _⟩ => ⟨S8x8x2064x2064, .f32⟩
  | .hbm, ⟨20, _⟩ => ⟨S1x2064, .i32⟩
  | .hbm, ⟨21, _⟩ => ⟨S2064x1, .i32⟩
  | .hbm, ⟨22, _⟩ => ⟨S2064x2064, .i32⟩
  | .hbm, ⟨23, _⟩ => ⟨S2064x2064, .i32⟩
  | .hbm, ⟨24, _⟩ => ⟨S2064x2064, .i1⟩
  | .hbm, ⟨25, _⟩ => ⟨S8x8x2064x2064, .f32⟩
  | .hbm, ⟨26, _⟩ => ⟨S8x8x2064x2064, .f32⟩
  | .hbm, ⟨27, _⟩ => ⟨S_, .f32⟩
  | .hbm, ⟨28, _⟩ => ⟨S8x8x2064x2064, .f32⟩
  | .hbm, ⟨29, _⟩ => ⟨S8x8x2064x2064, .f32⟩
  | .hbm, ⟨30, _⟩ => ⟨S8x8x2064x2064, .f32⟩
  | .hbm, ⟨31, _⟩ => ⟨S8x8x2064x2064, .f32⟩
  | .hbm, ⟨32, _⟩ => ⟨S8x8x2064x2064, .i1⟩
  | .hbm, ⟨33, _⟩ => ⟨S8x8x2064x2064, .f32⟩
  | .hbm, ⟨34, _⟩ => ⟨S8x8x2064x2064, .f32⟩
  | .hbm, ⟨35, _⟩ => ⟨S8x8x2064x2064, .f32⟩
  | .hbm, ⟨36, _⟩ => ⟨S8x8x2064x2064, .f32⟩
  | .hbm, ⟨37, _⟩ => ⟨S8x8x2064x2064, .f32⟩
  | .hbm, ⟨38, _⟩ => ⟨S8x8x2064x2064, .f32⟩
  | .hbm, ⟨39, _⟩ => ⟨S8x8x2064x2064, .f32⟩
  | .hbm, ⟨40, _⟩ => ⟨S8x8x2064x2064, .f32⟩
  | .hbm, ⟨41, _⟩ => ⟨S8x8x2064x2064, .f32⟩
  | .hbm, ⟨42, _⟩ => ⟨S_, .f32⟩
  | .hbm, ⟨43, _⟩ => ⟨S_, .f32⟩
  | .hbm, ⟨44, _⟩ => ⟨S8x8x2064x2064, .i1⟩
  | .hbm, ⟨45, _⟩ => ⟨S8x8x2064x2064, .f32⟩
  | .hbm, ⟨46, _⟩ => ⟨S8x8x2064x2064, .f32⟩
  | .hbm, ⟨47, _⟩ => ⟨S_, .f32⟩
  | .hbm, ⟨48, _⟩ => ⟨S_, .f32⟩
  | .hbm, ⟨49, _⟩ => ⟨S8x8x2064x2064, .f32⟩
  | .hbm, ⟨50, _⟩ => ⟨S8x8x2064x2064, .f32⟩
  | .hbm, ⟨51, _⟩ => ⟨S8x8x2064x2064, .f32⟩
  | .hbm, ⟨52, _⟩ => ⟨S_, .f32⟩
  | .hbm, ⟨53, _⟩ => ⟨S8x8x2064x2064, .f32⟩
  | .hbm, ⟨54, _⟩ => ⟨S8x8x2064x2064, .f32⟩
  | .hbm, ⟨55, _⟩ => ⟨S8x8x2064x2064, .f32⟩
  | .hbm, ⟨56, _⟩ => ⟨S8x8x2064x2064, .f32⟩
  | .hbm, ⟨57, _⟩ => ⟨S8x8x2064x2064, .i1⟩
  | .hbm, ⟨58, _⟩ => ⟨S8x8x2064x2064, .f32⟩
  | .hbm, ⟨59, _⟩ => ⟨S8x8x2064x2064, .f32⟩
  | .hbm, ⟨60, _⟩ => ⟨S8x8x2064x2064, .f32⟩
  | .hbm, ⟨61, _⟩ => ⟨S8x8x2064x2064, .f32⟩
  | .hbm, ⟨62, _⟩ => ⟨S8x8x2064x2064, .f32⟩
  | .hbm, ⟨63, _⟩ => ⟨S8x8x2064x2064, .f32⟩
  | .hbm, ⟨64, _⟩ => ⟨S8x8x2064x2064, .f32⟩
  | .hbm, ⟨65, _⟩ => ⟨S8x8x2064x2064, .f32⟩
  | .hbm, ⟨66, _⟩ => ⟨S8x8x2064x2064, .f32⟩
  | .hbm, ⟨67, _⟩ => ⟨S8x8x2064x2064, .f32⟩
  | .hbm, ⟨68, _⟩ => ⟨S8x8x2064x2064, .f32⟩
  | .hbm, ⟨69, _⟩ => ⟨S_, .f32⟩
  | .hbm, ⟨70, _⟩ => ⟨S_, .f32⟩
  | .hbm, ⟨71, _⟩ => ⟨S8x8x2064x2064, .i1⟩
  | .hbm, ⟨72, _⟩ => ⟨S8x8x2064x2064, .f32⟩
  | .hbm, ⟨73, _⟩ => ⟨S8x8x2064x2064, .f32⟩
  | .hbm, ⟨74, _⟩ => ⟨S8x8x128x2064, .f32⟩
  | .hbm, ⟨75, _⟩ => ⟨S8x2064x8x128, .f32⟩
  | .hbm, ⟨76, _⟩ => ⟨S8x2064x1024, .f32⟩
  | .hbm, ⟨77, _⟩ => ⟨S8x2064x1024, .f32⟩
  | .hbm, ⟨78, _⟩ => ⟨S8x2064x1024, .f32⟩
  | .hbm, ⟨79, _⟩ => ⟨S_, .f32⟩
  | .hbm, ⟨80, _⟩ => ⟨S8x2064x1024, .f32⟩
  | .hbm, ⟨81, _⟩ => ⟨S8x2064x1024, .f32⟩
  | .hbm, ⟨82, _⟩ => ⟨S_, .f32⟩
  | .hbm, ⟨83, _⟩ => ⟨S8x2064x1024, .f32⟩
  | .hbm, ⟨84, _⟩ => ⟨S8x2064x1024, .f32⟩
  | .hbm, ⟨85, _⟩ => ⟨S8x2064x1024, .f32⟩
  | .hbm, ⟨86, _⟩ => ⟨S8x2064x1024, .f32⟩
  | .hbm, ⟨87, _⟩ => ⟨S8x2064x1024, .bf16⟩
  | .hbm, ⟨88, _⟩ => ⟨S1x8x2064x1024, .f32⟩
  | .hbm, ⟨89, _⟩ => ⟨S8x2064x1024, .f32⟩
  | .hbm, ⟨90, _⟩ => ⟨S8x2064x1024, .f32⟩
  | .hbm, ⟨91, _⟩ => ⟨S1x8x2064x1024, .f32⟩
  | .hbm, ⟨92, _⟩ => ⟨S1x8x2064x1024, .f32⟩
  | .hbm, ⟨93, _⟩ => ⟨S2x8x2064x1024, .f32⟩
  | .hbm, ⟨94, _⟩ => ⟨S1x8x2064x1024, .f32⟩
  | .hbm, ⟨95, _⟩ => ⟨S8x2064x1024, .f32⟩
  | .hbm, ⟨96, _⟩ => ⟨S8x2064x1024, .f32⟩
  | .hbm, ⟨97, _⟩ => ⟨S1x8x2064x1024, .f32⟩
  | .hbm, ⟨98, _⟩ => ⟨S1x8x2064x1024, .f32⟩
  | .hbm, ⟨99, _⟩ => ⟨S2x8x2064x1024, .f32⟩
  | _, _ => ⟨S8x2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v21 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_call5_v0 : Ref sig .tc := ⟨.hbm, 77, rfl⟩
abbrev main_call5_v1 : Ref sig .tc := ⟨.hbm, 78, rfl⟩
abbrev main_call5_cst : Ref sig .tc := ⟨.hbm, 79, rfl⟩
abbrev main_call5_v2 : Ref sig .tc := ⟨.hbm, 80, rfl⟩
abbrev main_call5_v3 : Ref sig .tc := ⟨.hbm, 81, rfl⟩
abbrev main_call5_cst_0 : Ref sig .tc := ⟨.hbm, 82, rfl⟩
abbrev main_call5_v4 : Ref sig .tc := ⟨.hbm, 83, rfl⟩
abbrev main_call5_v5 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩

abbrev nD : Nat := 1
abbrev τ : Topo := Topo.v7x

variable {F : FTy → Type} [FloatOps F]
-- ==== Kernel2.lean ====
abbrev S16512x1024 : Shape := ⟨2, ![16512, 1024]⟩
abbrev S2x1024x4096 : Shape := ⟨3, ![2, 1024, 4096]⟩
abbrev S8x3x2048 : Shape := ⟨3, ![8, 3, 2048]⟩
abbrev S16512x4096 : Shape := ⟨2, ![16512, 4096]⟩
abbrev S2064x1024 : Shape := ⟨2, ![2064, 1024]⟩
abbrev S1x1024x512 : Shape := ⟨3, ![1, 1024, 512]⟩
abbrev S2064x512 : Shape := ⟨2, ![2064, 512]⟩
abbrev S1024x512 : Shape := ⟨2, ![1024, 512]⟩
abbrev S8x2064x4096 : Shape := ⟨3, ![8, 2064, 4096]⟩
abbrev S1x8x3x2048 : Shape := ⟨4, ![1, 8, 3, 2048]⟩
abbrev S2x8x3x2048 : Shape := ⟨4, ![2, 8, 3, 2048]⟩

abbrev nBuf : Space → Nat
  | .hbm => 9
  | .vmem => 6
  | .smem => 0
  | _ => 0

abbrev bufTy : (tb : Table) → Fin (tcTables nBuf tb) → BufTy
  | .hbm, ⟨0, _⟩ => ⟨S16512x1024, .bf16⟩
  | .hbm, ⟨1, _⟩ => ⟨S2x1024x4096, .f32⟩
  | .hbm, ⟨2, _⟩ => ⟨S8x3x2048, .f32⟩
  | .hbm, ⟨3, _⟩ => ⟨S16512x4096, .f32⟩
  | .hbm, ⟨4, _⟩ => ⟨S8x2064x4096, .f32⟩
  | .hbm, ⟨5, _⟩ => ⟨S8x3x2048, .f32⟩
  | .hbm, ⟨6, _⟩ => ⟨S1x8x3x2048, .f32⟩
  | .hbm, ⟨7, _⟩ => ⟨S1x8x3x2048, .f32⟩
  | .hbm, ⟨8, _⟩ => ⟨S2x8x3x2048, .f32⟩
  | .local _ .vmem, ⟨0, _⟩ => ⟨S2064x1024, .bf16⟩
  | .local _ .vmem, ⟨1, _⟩ => ⟨S2064x1024, .bf16⟩
  | .local _ .vmem, ⟨2, _⟩ => ⟨S1x1024x512, .f32⟩
  | .local _ .vmem, ⟨3, _⟩ => ⟨S1x1024x512, .f32⟩
  | .local _ .vmem, ⟨4, _⟩ => ⟨S2064x512, .f32⟩
  | .local _ .vmem, ⟨5, _⟩ => ⟨S2064x512, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2064x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16512x1024 : Shape := ⟨2, ![16512, 1024]⟩
abbrev S2x1024x4096 : Shape := ⟨3, ![2, 1024, 4096]⟩
abbrev S8x3x2048 : Shape := ⟨3, ![8, 3, 2048]⟩
abbrev S1x1024x4096 : Shape := ⟨3, ![1, 1024, 4096]⟩
abbrev S1024x4096 : Shape := ⟨2, ![1024, 4096]⟩
abbrev S16512x4096 : Shape := ⟨2, ![16512, 4096]⟩
abbrev S8x2064x4096 : Shape := ⟨3, ![8, 2064, 4096]⟩
abbrev S_ : Shape := ⟨0, ![]⟩
abbrev S8x2064x2048 : Shape := ⟨3, ![8, 2064, 2048]⟩
abbrev S8x2067x2048 : Shape := ⟨3, ![8, 2067, 2048]⟩
abbrev S1x8x3x2048 : Shape := ⟨4, ![1, 8, 3, 2048]⟩
abbrev S2x8x3x2048 : Shape := ⟨4, ![2, 8, 3, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S2x1024x4096, .f32⟩
  | .hbm, ⟨2, _⟩ => ⟨S8x3x2048, .f32⟩
  | .hbm, ⟨3, _⟩ => ⟨S16512x1024, .f32⟩
  | .hbm, ⟨4, _⟩ => ⟨S1x1024x4096, .f32⟩
  | .hbm, ⟨5, _⟩ => ⟨S1024x4096, .f32⟩
  | .hbm, ⟨6, _⟩ => ⟨S16512x4096, .f32⟩
  | .hbm, ⟨7, _⟩ => ⟨S8x2064x4096, .f32⟩
  | .hbm, ⟨8, _⟩ => ⟨S_, .f32⟩
  | .hbm, ⟨9, _⟩ => ⟨S8x3x2048, .f32⟩
  | .hbm, ⟨10, _⟩ => ⟨S8x2064x2048, .f32⟩
  | .hbm, ⟨11, _⟩ => ⟨S8x2067x2048, .f32⟩
  | .hbm, ⟨12, _⟩ => ⟨S16512x4096, .f32⟩
  | .hbm, ⟨13, _⟩ => ⟨S8x3x2048, .f32⟩
  | .hbm, ⟨14, _⟩ => ⟨S1x8x3x2048, .f32⟩
  | .hbm, ⟨15, _⟩ => ⟨S1x8x3x2048, .f32⟩
  | .hbm, ⟨16, _⟩ => ⟨S2x8x3x2048, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel3.lean ====
abbrev S16512x1024 : Shape := ⟨2, ![16512, 1024]⟩
abbrev S2048x1024 : Shape := ⟨2, ![2048, 1024]⟩
abbrev S1024 : Shape := ⟨1, ![1024]⟩
abbrev S1x1024 : Shape := ⟨2, ![1, 1024]⟩
abbrev S384x1024 : Shape := ⟨2, ![384, 1024]⟩
abbrev S1024x1024 : Shape := ⟨2, ![1024, 1024]⟩
abbrev S384 : Shape := ⟨1, ![384]⟩
abbrev S384x1 : Shape := ⟨2, ![384, 1]⟩

abbrev nBuf : Space → Nat
  | .hbm => 9
  | .vmem => 12
  | .smem => 0
  | _ => 0

abbrev bufTy : (tb : Table) → Fin (tcTables nBuf tb) → BufTy
  | .hbm, ⟨0, _⟩ => ⟨S16512x1024, .bf16⟩
  | .hbm, ⟨1, _⟩ => ⟨S16512x1024, .bf16⟩
  | .hbm, ⟨2, _⟩ => ⟨S2048x1024, .f32⟩
  | .hbm, ⟨3, _⟩ => ⟨S16512x1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S16512x1024, .f32⟩
  | .hbm, ⟨8, _⟩ => ⟨S16512x1024, .bf16⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S2048x1024, .bf16⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16512x1024 : Shape := ⟨2, ![16512, 1024]⟩
abbrev S2048x1024 : Shape := ⟨2, ![2048, 1024]⟩
abbrev S1024 : Shape := ⟨1, ![1024]⟩
abbrev S16512x2048 : Shape := ⟨2, ![16512, 2048]⟩
abbrev S_ : Shape := ⟨0, ![]⟩
abbrev S16512 : Shape := ⟨1, ![16512]⟩
abbrev S16512x1 : Shape := ⟨2, ![16512, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S16512x1024, .bf16⟩
  | .hbm, ⟨2, _⟩ => ⟨S2048x1024, .f32⟩
  | .hbm, ⟨3, _⟩ => ⟨S16512x1024, .f32⟩
  | .hbm, ⟨4, _⟩ => ⟨S1024, .f32⟩
  | .hbm, ⟨5, _⟩ => ⟨S16512x2048, .bf16⟩
  | .hbm, ⟨6, _⟩ => ⟨S16512x2048, .f32⟩
  | .hbm, ⟨7, _⟩ => ⟨S16512x1024, .f32⟩
  | .hbm, ⟨8, _⟩ => ⟨S16512x1024, .f32⟩
  | .hbm, ⟨9, _⟩ => ⟨S16512x1024, .f32⟩
  | .hbm, ⟨10, _⟩ => ⟨S_, .f32⟩
  | .hbm, ⟨11, _⟩ => ⟨S16512, .f32⟩
  | .hbm, ⟨12, _⟩ => ⟨S16512x1, .f32⟩
  | .hbm, ⟨13, _⟩ => ⟨S_, .f32⟩
  | .hbm, ⟨14, _⟩ => ⟨S16512x1, .f32⟩
  | .hbm, ⟨15, _⟩ => ⟨S16512x1, .f32⟩
  | .hbm, ⟨16, _⟩ => ⟨S_, .f32⟩
  | .hbm, ⟨17, _⟩ => ⟨S16512x1, .f32⟩
  | .hbm, ⟨18, _⟩ => ⟨S16512x1, .f32⟩
  | .hbm, ⟨19, _⟩ => ⟨S16512x1, .f32⟩
  | .hbm, ⟨20, _⟩ => ⟨S16512x1024, .f32⟩
  | .hbm, ⟨21, _⟩ => ⟨S16512x1024, .f32⟩
  | .hbm, ⟨22, _⟩ => ⟨S1x1024, .f32⟩
  | .hbm, ⟨23, _⟩ => ⟨S16512x1024, .f32⟩
  | .hbm, ⟨24, _⟩ => ⟨S16512x1024, .f32⟩
  | .hbm, ⟨25, _⟩ => ⟨S16512x1024, .bf16⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S16512x2048 : Shape := ⟨2, ![16512, 2048]⟩
abbrev S2048x1024 : Shape := ⟨2, ![2048, 1024]⟩
abbrev S16512x1024 : Shape := ⟨2, ![16512, 1024]⟩
abbrev S1024 : Shape := ⟨1, ![1024]⟩
abbrev S1x1024 : Shape := ⟨2, ![1, 1024]⟩
abbrev S384x2048 : Shape := ⟨2, ![384, 2048]⟩
abbrev S384x1024 : Shape := ⟨2, ![384, 1024]⟩
abbrev S384 : Shape := ⟨1, ![384]⟩
abbrev S384x1 : Shape := ⟨2, ![384, 1]⟩

abbrev nBuf : Space → Nat
  | .hbm => 8
  | .vmem => 10
  | .smem => 0
  | _ => 0

abbrev bufTy : (tb : Table) → Fin (tcTables nBuf tb) → BufTy
  | .hbm, ⟨0, _⟩ => ⟨S16512x2048, .bf16⟩
  | .hbm, ⟨1, _⟩ => ⟨S2048x1024, .f32⟩
  | .hbm, ⟨2, _⟩ => ⟨S16512x1024, .f32⟩
  | .hbm, ⟨3, _⟩ => ⟨S1024, .f32⟩
  | .hbm, ⟨4, _⟩ => ⟨S2048x1024, .bf16⟩
  | .hbm, ⟨5, _⟩ => ⟨S1x1024, .f32⟩
  | .hbm, ⟨6, _⟩ => ⟨S16512x1024, .f32⟩
  | .hbm, ⟨7, _⟩ => ⟨S16512x1024, .bf16⟩
  | .local _ .vmem, ⟨0, _⟩ => ⟨S384x2048, .bf16⟩
  | .local _ .vmem, ⟨1, _⟩ => ⟨S384x2048, .bf16⟩
  | .local _ .vmem, ⟨2, _⟩ => ⟨S2048x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | _, _ => ⟨S16512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16512x2048 : Shape := ⟨2, ![16512, 2048]⟩
abbrev S2048x1024 : Shape := ⟨2, ![2048, 1024]⟩
abbrev S16512x1024 : Shape := ⟨2, ![16512, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16512x2048, .bf16⟩
  | .hbm, ⟨1, _⟩ => ⟨S2048x1024, .f32⟩
  | .hbm, ⟨2, _⟩ => ⟨S16512x1024, .f32⟩
  | .hbm, ⟨3, _⟩ => ⟨S1024, .f32⟩
  | .hbm, ⟨4, _⟩ => ⟨S16512x2048, .f32⟩
  | .hbm, ⟨5, _⟩ => ⟨S16512x1024, .f32⟩
  | .hbm, ⟨6, _⟩ => ⟨S16512x1024, .f32⟩
  | .hbm, ⟨7, _⟩ => ⟨S16512x1024, .f32⟩
  | .hbm, ⟨8, _⟩ => ⟨S_, .f32⟩
  | .hbm, ⟨9, _⟩ => ⟨S16512, .f32⟩
  | .hbm, ⟨10, _⟩ => ⟨S16512x1, .f32⟩
  | .hbm, ⟨11, _⟩ => ⟨S_, .f32⟩
  | .hbm, ⟨12, _⟩ => ⟨S16512x1, .f32⟩
  | .hbm, ⟨13, _⟩ => ⟨S16512x1, .f32⟩
  | .hbm, ⟨14, _⟩ => ⟨S_, .f32⟩
  | .hbm, ⟨15, _⟩ => ⟨S16512x1, .f32⟩
  | .hbm, ⟨16, _⟩ => ⟨S16512x1, .f32⟩
  | .hbm, ⟨17, _⟩ => ⟨S16512x1, .f32⟩
  | .hbm, ⟨18, _⟩ => ⟨S16512x1024, .f32⟩
  | .hbm, ⟨19, _⟩ => ⟨S16512x1024, .f32⟩
  | .hbm, ⟨20, _⟩ => ⟨S1x1024, .f32⟩
  | .hbm, ⟨21, _⟩ => ⟨S16512x1024, .f32⟩
  | .hbm, ⟨22, _⟩ => ⟨S16512x1024, .f32⟩
  | .hbm, ⟨23, _⟩ => ⟨S16512x1024, .bf16⟩
  | _, _ => ⟨S16512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S16512x1024 : Shape := ⟨2, ![16512, 1024]⟩
abbrev S2x1024x8208 : Shape := ⟨3, ![2, 1024, 8208]⟩
abbrev S1x1024x16 : Shape := ⟨3, ![1, 1024, 16]⟩
abbrev S1024x16 : Shape := ⟨2, ![1024, 16]⟩
abbrev S16512x8192 : Shape := ⟨2, ![16512, 8192]⟩
abbrev S16512x16 : Shape := ⟨2, ![16512, 16]⟩
abbrev S2064x1024 : Shape := ⟨2, ![2064, 1024]⟩
abbrev S1x1024x512 : Shape := ⟨3, ![1, 1024, 512]⟩
abbrev S2064x512 : Shape := ⟨2, ![2064, 512]⟩
abbrev S2064x16 : Shape := ⟨2, ![2064, 16]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S16512x1024, .bf16⟩
  | .hbm, ⟨1, _⟩ => ⟨S2x1024x8208, .f32⟩
  | .hbm, ⟨2, _⟩ => ⟨S1x1024x16, .f32⟩
  | .hbm, ⟨3, _⟩ => ⟨S1024x16, .f32⟩
  | .hbm, ⟨4, _⟩ => ⟨S16512x8192, .f32⟩
  | .hbm, ⟨5, _⟩ => ⟨S16512x16, .f32⟩
  | .local _ .vmem, ⟨0, _⟩ => ⟨S2064x1024, .bf16⟩
  | .local _ .vmem, ⟨1, _⟩ => ⟨S2064x1024, .bf16⟩
  | .local _ .vmem, ⟨2, _⟩ => ⟨S1x1024x512, .f32⟩
  | .local _ .vmem, ⟨3, _⟩ => ⟨S1x1024x512, .f32⟩
  | .local _ .vmem, ⟨4, _⟩ => ⟨S1024x16, .f32⟩
  | .local _ .vmem, ⟨5, _⟩ => ⟨S2064x512, .f32⟩
  | .local _ .vmem, ⟨6, _⟩ => ⟨S2064x512, .f32⟩
  | .local _ .vmem, ⟨7, _⟩ => ⟨S2064x16, .f32⟩
  | .local _ .vmem, ⟨8, _⟩ => ⟨S2064x16, .f32⟩
  | _, _ => ⟨S16512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2064x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2064x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S16512x1024 : Shape := ⟨2, ![16512, 1024]⟩
abbrev S2x1024x8208 : Shape := ⟨3, ![2, 1024, 8208]⟩
abbrev S1x1024x8208 : Shape := ⟨3, ![1, 1024, 8208]⟩
abbrev S1024x8208 : Shape := ⟨2, ![1024, 8208]⟩
abbrev S16512x8208 : Shape := ⟨2, ![16512, 8208]⟩
abbrev S16512x8192 : Shape := ⟨2, ![16512, 8192]⟩
abbrev S16512x16 : Shape := ⟨2, ![16512, 16]⟩

abbrev nBuf : Space → Nat
  | .hbm => 8
  | .vmem => 0
  | .smem => 0
  | _ => 0

abbrev bufTy : (tb : Table) → Fin (tcTables nBuf tb) → BufTy
  | .hbm, ⟨0, _⟩ => ⟨S16512x1024, .bf16⟩
  | .hbm, ⟨1, _⟩ => ⟨S2x1024x8208, .f32⟩
  | .hbm, ⟨2, _⟩ => ⟨S16512x1024, .f32⟩
  | .hbm, ⟨3, _⟩ => ⟨S1x1024x8208, .f32⟩
  | .hbm, ⟨4, _⟩ => ⟨S1024x8208, .f32⟩
  | .hbm, ⟨5, _⟩ => ⟨S16512x8208, .f32⟩
  | .hbm, ⟨6, _⟩ => ⟨S16512x8192, .f32⟩
  | .hbm, ⟨7, _⟩ => ⟨S16512x16, .f32⟩
  | _, _ => ⟨S16512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S8x2064x1024 : Shape := ⟨3, ![8, 2064, 1024]⟩
abbrev S1024 : Shape := ⟨1, ![1024]⟩
abbrev S1x1024 : Shape := ⟨2, ![1, 1024]⟩
abbrev S8x2048x1024 : Shape := ⟨3, ![8, 2048, 1024]⟩
abbrev S1x2064x1024 : Shape := ⟨3, ![1, 2064, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x2064x1024, .f32⟩
  | .hbm, ⟨1, _⟩ => ⟨S1024, .f32⟩
  | .hbm, ⟨2, _⟩ => ⟨S1x1024, .f32⟩
  | .hbm, ⟨3, _⟩ => ⟨S8x2048x1024, .f32⟩
  | .local _ .vmem, ⟨0, _⟩ => ⟨S1x2064x1024, .f32⟩
  | .local _ .vmem, ⟨1, _⟩ => ⟨S1x2064x1024, .f32⟩
  | .local _ .vmem, ⟨2, _⟩ => ⟨S1x1024, .f32⟩
  | .local _ .vmem, ⟨3, _⟩ => ⟨S1x512x1024, .f32⟩
  | .local _ .vmem, ⟨4, _⟩ => ⟨S1x512x1024, .f32⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_off1 (i : grid0.Coords) : Fin 3 → Nat :=
  let c0 : Index := 0#32
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  let v2 : BitVec 32 := v1
  let v3 : Index := Scalar.indexCast v2
  let c0_0 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2064x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x2064x1024 : Shape := ⟨3, ![8, 2064, 1024]⟩
abbrev S1024 : Shape := ⟨1, ![1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2048x1024 : Shape := ⟨3, ![8, 2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2064x1024, .f32⟩
  | .hbm, ⟨1, _⟩ => ⟨S1024, .f32⟩
  | .hbm, ⟨2, _⟩ => ⟨S8x2064x1024, .f32⟩
  | .hbm, ⟨3, _⟩ => ⟨S_, .f32⟩
  | .hbm, ⟨4, _⟩ => ⟨S8x2064, .f32⟩
  | .hbm, ⟨5, _⟩ => ⟨S8x2064x1, .f32⟩
  | .hbm, ⟨6, _⟩ => ⟨S_, .f32⟩
  | .hbm, ⟨7, _⟩ => ⟨S8x2064x1, .f32⟩
  | .hbm, ⟨8, _⟩ => ⟨S8x2064x1, .f32⟩
  | .hbm, ⟨9, _⟩ => ⟨S_, .f32⟩
  | .hbm, ⟨10, _⟩ => ⟨S8x2064x1, .f32⟩
  | .hbm, ⟨11, _⟩ => ⟨S8x2064x1, .f32⟩
  | .hbm, ⟨12, _⟩ => ⟨S8x2064x1, .f32⟩
  | .hbm, ⟨13, _⟩ => ⟨S8x2064x1024, .f32⟩
  | .hbm, ⟨14, _⟩ => ⟨S8x2064x1024, .f32⟩
  | .hbm, ⟨15, _⟩ => ⟨S1x1x1024, .f32⟩
  | .hbm, ⟨16, _⟩ => ⟨S8x2064x1024, .f32⟩
  | .hbm, ⟨17, _⟩ => ⟨S8x2064x1024, .f32⟩
  | .hbm, ⟨18, _⟩ => ⟨S8x2048x1024, .f32⟩
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S1x32x1024 : Shape := ⟨3, ![1, 32, 1024]⟩
abbrev S1024 : Shape := ⟨1, ![1024]⟩
abbrev S1x1024 : Shape := ⟨2, ![1, 1024]⟩
abbrev S32x1024 : Shape := ⟨2, ![32, 1024]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S1x32x1024, .f32⟩
  | .hbm, ⟨1, _⟩ => ⟨S1024, .f32⟩
  | .hbm, ⟨2, _⟩ => ⟨S1x1024, .f32⟩
  | .hbm, ⟨3, _⟩ => ⟨S1x32x1024, .f32⟩
  | .local _ .vmem, ⟨0, _⟩ => ⟨S1x32x1024, .f32⟩
  | .local _ .vmem, ⟨1, _⟩ => ⟨S1x1024, .f32⟩
  | .local _ .vmem, ⟨2, _⟩ => ⟨S1x32x1024, .f32⟩
  | _, _ => ⟨S1x32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_mult1 (i : grid0.Coords) : BitVec 32 :=
  let c0_i32 : BitVec 32 := 0#32
  let arg1 : BitVec 32 := BitVec.ofNat 32 (i 1).val
  let c32_i32 : BitVec 32 := 32#32
  let v0 : BitVec 32 := Scalar.muli arg1 c32_i32
  let v1 : BitVec 32 := Scalar.addi c0_i32 v0
  v1
def k0_off1 (i : grid0.Coords) : Fin 3 → Nat :=
  let c0 : Index := 0#32
  let c0_i32 : BitVec 32 := 0#32
  let arg1 : BitVec 32 := BitVec.ofNat 32 (i 1).val
  let c32_i32 : BitVec 32 := 32#32
  let v0 : BitVec 32 := Scalar.muli arg1 c32_i32
  let v1 : BitVec 32 := Scalar.addi c0_i32 v0
  let v2 : BitVec 32 := v1
  let v3 : Index := Scalar.indexCast v2
  let c0_0 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference7Ideal.lean ====
abbrev S1x32x1024 : Shape := ⟨3, ![1, 32, 1024]⟩
abbrev S1024 : Shape := ⟨1, ![1024]⟩
abbrev S_ : Shape := ⟨0, ![]⟩
abbrev S1x32 : Shape := ⟨2, ![1, 32]⟩
abbrev S1x32x1 : Shape := ⟨3, ![1, 32, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1x32x1024, .f32⟩
  | .hbm, ⟨1, _⟩ => ⟨S1024, .f32⟩
  | .hbm, ⟨2, _⟩ => ⟨S1x32x1024, .f32⟩
  | .hbm, ⟨3, _⟩ => ⟨S_, .f32⟩
  | .hbm, ⟨4, _⟩ => ⟨S1x32, .f32⟩
  | .hbm, ⟨5, _⟩ => ⟨S1x32x1, .f32⟩
  | .hbm, ⟨6, _⟩ => ⟨S_, .f32⟩
  | .hbm, ⟨7, _⟩ => ⟨S1x32x1, .f32⟩
  | .hbm, ⟨8, _⟩ => ⟨S1x32x1, .f32⟩
  | .hbm, ⟨9, _⟩ => ⟨S_, .f32⟩
  | .hbm, ⟨10, _⟩ => ⟨S1x32x1, .f32⟩
  | .hbm, ⟨11, _⟩ => ⟨S1x32x1, .f32⟩
  | .hbm, ⟨12, _⟩ => ⟨S1x32x1, .f32⟩
  | .hbm, ⟨13, _⟩ => ⟨S1x32x1024, .f32⟩
  | .hbm, ⟨14, _⟩ => ⟨S1x32x1024, .f32⟩
  | .hbm, ⟨15, _⟩ => ⟨S1x1x1024, .f32⟩
  | .hbm, ⟨16, _⟩ => ⟨S1x32x1024, .f32⟩
  | .hbm, ⟨17, _⟩ => ⟨S1x32x1024, .f32⟩
  | _, _ => ⟨S1x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S32x1024 : Shape := ⟨2, ![32, 1024]⟩
abbrev S2x1024x4096 : Shape := ⟨3, ![2, 1024, 4096]⟩
abbrev S32x3x2048 : Shape := ⟨3, ![32, 3, 2048]⟩
abbrev S32x4096 : Shape := ⟨2, ![32, 4096]⟩
abbrev S1x1024x512 : Shape := ⟨3, ![1, 1024, 512]⟩
abbrev S32x512 : Shape := ⟨2, ![32, 512]⟩
abbrev S1024x512 : Shape := ⟨2, ![1024, 512]⟩
abbrev S32x2x2048 : Shape := ⟨3, ![32, 2, 2048]⟩
abbrev S32x2048 : Shape := ⟨2, ![32, 2048]⟩
abbrev S32x1x2048 : Shape := ⟨3, ![32, 1, 2048]⟩
abbrev S1x32x3x2048 : Shape := ⟨4, ![1, 32, 3, 2048]⟩
abbrev S2x32x3x2048 : Shape := ⟨4, ![2, 32, 3, 2048]⟩

abbrev nBuf : Space → Nat
  | .hbm => 12
  | .vmem => 5
  | .smem => 0
  | _ => 0

abbrev bufTy : (tb : Table) → Fin (tcTables nBuf tb) → BufTy
  | .hbm, ⟨0, _⟩ => ⟨S32x1024, .bf16⟩
  | .hbm, ⟨1, _⟩ => ⟨S2x1024x4096, .f32⟩
  | .hbm, ⟨2, _⟩ => ⟨S32x3x2048, .f32⟩
  | .hbm, ⟨3, _⟩ => ⟨S32x3x2048, .f32⟩
  | .hbm, ⟨4, _⟩ => ⟨S32x4096, .f32⟩
  | .hbm, ⟨5, _⟩ => ⟨S32x2x2048, .f32⟩
  | .hbm, ⟨6, _⟩ => ⟨S32x2048, .f32⟩
  | .hbm, ⟨7, _⟩ => ⟨S32x1x2048, .f32⟩
  | .hbm, ⟨8, _⟩ => ⟨S32x3x2048, .f32⟩
  | .hbm, ⟨9, _⟩ => ⟨S1x32x3x2048, .f32⟩
  | .hbm, ⟨10, _⟩ => ⟨S1x32x3x2048, .f32⟩
  | .hbm, ⟨11, _⟩ => ⟨S2x32x3x2048, .f32⟩
  | .local _ .vmem, ⟨0, _⟩ => ⟨S32x1024, .bf16⟩
  | .local _ .vmem, ⟨1, _⟩ => ⟨S1x1024x512, .f32⟩
  | .local _ .vmem, ⟨2, _⟩ => ⟨S1x1024x512, .f32⟩
  | .local _ .vmem, ⟨3, _⟩ => ⟨S32x512, .f32⟩
  | .local _ .vmem, ⟨4, _⟩ => ⟨S32x512, .f32⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S32x1024 : Shape := ⟨2, ![32, 1024]⟩
abbrev S2x1024x4096 : Shape := ⟨3, ![2, 1024, 4096]⟩
abbrev S32x3x2048 : Shape := ⟨3, ![32, 3, 2048]⟩
abbrev S1x1024x4096 : Shape := ⟨3, ![1, 1024, 4096]⟩
abbrev S1024x4096 : Shape := ⟨2, ![1024, 4096]⟩
abbrev S32x4096 : Shape := ⟨2, ![32, 4096]⟩
abbrev S32x2048 : Shape := ⟨2, ![32, 2048]⟩
abbrev S32x1x2048 : Shape := ⟨3, ![32, 1, 2048]⟩
abbrev S32x4x2048 : Shape := ⟨3, ![32, 4, 2048]⟩
abbrev S1x32x3x2048 : Shape := ⟨4, ![1, 32, 3, 2048]⟩
abbrev S2x32x3x2048 : Shape := ⟨4, ![2, 32, 3, 2048]⟩

abbrev nBuf : Space → Nat
  | .hbm => 15
  | .vmem => 0
  | .smem => 0
  | _ => 0

abbrev bufTy : (tb : Table) → Fin (tcTables nBuf tb) → BufTy
  | .hbm, ⟨0, _⟩ => ⟨S32x1024, .bf16⟩
  | .hbm, ⟨1, _⟩ => ⟨S2x1024x4096, .f32⟩
  | .hbm, ⟨2, _⟩ => ⟨S32x3x2048, .f32⟩
  | .hbm, ⟨3, _⟩ => ⟨S32x3x2048, .f32⟩
  | .hbm, ⟨4, _⟩ => ⟨S32x1024, .f32⟩
  | .hbm, ⟨5, _⟩ => ⟨S1x1024x4096, .f32⟩
  | .hbm, ⟨6, _⟩ => ⟨S1024x4096, .f32⟩
  | .hbm, ⟨7, _⟩ => ⟨S32x4096, .f32⟩
  | .hbm, ⟨8, _⟩ => ⟨S32x2048, .f32⟩
  | .hbm, ⟨9, _⟩ => ⟨S32x1x2048, .f32⟩
  | .hbm, ⟨10, _⟩ => ⟨S32x4x2048, .f32⟩
  | .hbm, ⟨11, _⟩ => ⟨S32x3x2048, .f32⟩
  | .hbm, ⟨12, _⟩ => ⟨S1x32x3x2048, .f32⟩
  | .hbm, ⟨13, _⟩ => ⟨S1x32x3x2048, .f32⟩
  | .hbm, ⟨14, _⟩ => ⟨S2x32x3x2048, .f32⟩
  | _, _ => ⟨S32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S32x4096 : Shape := ⟨2, ![32, 4096]⟩
abbrev S32x3x2048 : Shape := ⟨3, ![32, 3, 2048]⟩
abbrev S4x2048 : Shape := ⟨2, ![4, 2048]⟩
abbrev S2048 : Shape := ⟨1, ![2048]⟩
abbrev S16x128x128 : Shape := ⟨3, ![16, 128, 128]⟩
abbrev S32x2048 : Shape := ⟨2, ![32, 2048]⟩
abbrev S16x128x256 : Shape := ⟨3, ![16, 128, 256]⟩
abbrev S3x32x2048 : Shape := ⟨3, ![3, 32, 2048]⟩
abbrev S1x2048 : Shape := ⟨2, ![1, 2048]⟩
abbrev S32x128 : Shape := ⟨2, ![32, 128]⟩
abbrev S3x32x128 : Shape := ⟨3, ![3, 32, 128]⟩
abbrev S4x128 : Shape := ⟨2, ![4, 128]⟩
abbrev S1x128 : Shape := ⟨2, ![1, 128]⟩
abbrev S1x128x256 : Shape := ⟨3, ![1, 128, 256]⟩
abbrev S1x32x128 : Shape := ⟨3, ![1, 32, 128]⟩
abbrev S128x256 : Shape := ⟨2, ![128, 256]⟩
abbrev S32x256 : Shape := ⟨2, ![32, 256]⟩
abbrev S1x32x2048 : Shape := ⟨3, ![1, 32, 2048]⟩
abbrev S2x32x2048 : Shape := ⟨3, ![2, 32, 2048]⟩

abbrev nBuf : Space → Nat
  | .hbm => 23
  | .vmem => 24
  | .smem => 0
  | _ => 0

abbrev bufTy : (tb : Table) → Fin (tcTables nBuf tb) → BufTy
  | .hbm, ⟨0, _⟩ => ⟨S32x4096, .f32⟩
  | .hbm, ⟨1, _⟩ => ⟨S32x3x2048, .f32⟩
  | .hbm, ⟨2, _⟩ => ⟨S4x2048, .f32⟩
  | .hbm, ⟨3, _⟩ => ⟨S2048, .f32⟩
  | .hbm, ⟨4, _⟩ => ⟨S16x128x128, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S32x2048, .f32⟩
  | .hbm, ⟨10, _⟩ => ⟨S32x2048, .f32⟩
  | .hbm, ⟨11, _⟩ => ⟨S16x128x256, .f32⟩
  | .hbm, ⟨12, _⟩ => ⟨S16x128x256, .bf16⟩
  | .hbm, ⟨13, _⟩ => ⟨S3x32x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S32x2048, .bf16⟩
  | .hbm, ⟨19, _⟩ => ⟨S32x2048, .f32⟩
  | .hbm, ⟨20, _⟩ => ⟨S1x32x2048, .f32⟩
  | .hbm, ⟨21, _⟩ => ⟨S1x32x2048, .f32⟩
  | .hbm, ⟨22, _⟩ => ⟨S2x32x2048, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S3x32x128, .f32⟩
  | .local _ .vmem, ⟨5, _⟩ => ⟨S3x32x128, .f32⟩
  | .local _ .vmem, ⟨6, _⟩ => ⟨S4x128, .f32⟩
  | .local _ .vmem, ⟨7, _⟩ => ⟨S4x128, .f32⟩
  | .local _ .vmem, ⟨8, _⟩ => ⟨S1x128, .f32⟩
  | .local _ .vmem, ⟨9, _⟩ => ⟨S1x128, .f32⟩
  | .local _ .vmem, ⟨10, _⟩ => ⟨S1x128x256, .bf16⟩
  | .local _ .vmem, ⟨11, _⟩ => ⟨S1x128x256, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S32x128, .f32⟩
  | .local _ .vmem, ⟨19, _⟩ => ⟨S32x128, .f32⟩
  | .local _ .vmem, ⟨20, _⟩ => ⟨S32x128, .bf16⟩
  | .local _ .vmem, ⟨21, _⟩ => ⟨S32x128, .bf16⟩
  | .local _ .vmem, ⟨22, _⟩ => ⟨S32x128, .f32⟩
  | .local _ .vmem, ⟨23, _⟩ => ⟨S32x128, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S32x4096 : Shape := ⟨2, ![32, 4096]⟩
abbrev S32x3x2048 : Shape := ⟨3, ![32, 3, 2048]⟩
abbrev S4x2048 : Shape := ⟨2, ![4, 2048]⟩
abbrev S2048 : Shape := ⟨1, ![2048]⟩
abbrev S16x128x128 : Shape := ⟨3, ![16, 128, 128]⟩
abbrev S32x2048 : Shape := ⟨2, ![32, 2048]⟩
abbrev S32x1x2048 : Shape := ⟨3, ![32, 1, 2048]⟩
abbrev S32x4x2048 : Shape := ⟨3, ![32, 4, 2048]⟩
abbrev S1x2048 : Shape := ⟨2, ![1, 2048]⟩
abbrev S1x1x2048 : Shape := ⟨3, ![1, 1, 2048]⟩
abbrev S_ : Shape := ⟨0, ![]⟩
abbrev S32x16x128 : Shape := ⟨3, ![32, 16, 128]⟩
abbrev S16x128x32 : Shape := ⟨3, ![16, 128, 32]⟩
abbrev S1x32x2048 : Shape := ⟨3, ![1, 32, 2048]⟩
abbrev S2x32x2048 : Shape := ⟨3, ![2, 32, 2048]⟩

abbrev nBuf : Space → Nat
  | .hbm => 125
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x3x2048, .f32⟩
  | .hbm, ⟨2, _⟩ => ⟨S4x2048, .f32⟩
  | .hbm, ⟨3, _⟩ => ⟨S2048, .f32⟩
  | .hbm, ⟨4, _⟩ => ⟨S16x128x128, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S32x2048, .f32⟩
  | .hbm, ⟨10, _⟩ => ⟨S32x2048, .f32⟩
  | .hbm, ⟨11, _⟩ => ⟨S32x2048, .f32⟩
  | .hbm, ⟨12, _⟩ => ⟨S32x1x2048, .f32⟩
  | .hbm, ⟨13, _⟩ => ⟨S32x2048, .f32⟩
  | .hbm, ⟨14, _⟩ => ⟨S32x4x2048, .f32⟩
  | .hbm, ⟨15, _⟩ => ⟨S32x1x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S32x1x2048, .f32⟩
  | .hbm, ⟨20, _⟩ => ⟨S32x1x2048, .f32⟩
  | .hbm, ⟨21, _⟩ => ⟨S_, .f32⟩
  | .hbm, ⟨22, _⟩ => ⟨S32x1x2048, .f32⟩
  | .hbm, ⟨23, _⟩ => ⟨S32x1x2048, .f32⟩
  | .hbm, ⟨24, _⟩ => ⟨S32x1x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S32x1x2048, .f32⟩
  | .hbm, ⟨29, _⟩ => ⟨S32x1x2048, .f32⟩
  | .hbm, ⟨30, _⟩ => ⟨S32x1x2048, .f32⟩
  | .hbm, ⟨31, _⟩ => ⟨S32x1x2048, .f32⟩
  | .hbm, ⟨32, _⟩ => ⟨S1x2048, .f32⟩
  | .hbm, ⟨33, _⟩ => ⟨S2048, .f32⟩
  | .hbm, ⟨34, _⟩ => ⟨S1x1x2048, .f32⟩
  | .hbm, ⟨35, _⟩ => ⟨S32x1x2048, .f32⟩
  | .hbm, ⟨36, _⟩ => ⟨S32x1x2048, .f32⟩
  | .hbm, ⟨37, _⟩ => ⟨S32x1x2048, .f32⟩
  | .hbm, ⟨38, _⟩ => ⟨S32x1x2048, .f32⟩
  | .hbm, ⟨39, _⟩ => ⟨S1x2048, .f32⟩
  | .hbm, ⟨40, _⟩ => ⟨S2048, .f32⟩
  | .hbm, ⟨41, _⟩ => ⟨S1x1x2048, .f32⟩
  | .hbm, ⟨42, _⟩ => ⟨S32x1x2048, .f32⟩
  | .hbm, ⟨43, _⟩ => ⟨S32x1x2048, .f32⟩
  | .hbm, ⟨44, _⟩ => ⟨S32x1x2048, .f32⟩
  | .hbm, ⟨45, _⟩ => ⟨S1x1x2048, .f32⟩
  | .hbm, ⟨46, _⟩ => ⟨S32x1x2048, .f32⟩
  | .hbm, ⟨47, _⟩ => ⟨S32x1x2048, .f32⟩
  | .hbm, ⟨48, _⟩ => ⟨S32x2048, .f32⟩
  | .hbm, ⟨49, _⟩ => ⟨S32x16x128, .f32⟩
  | .hbm, ⟨50, _⟩ => ⟨S16x128x32, .f32⟩
  | .hbm, ⟨51, _⟩ => ⟨S32x16x128, .f32⟩
  | .hbm, ⟨52, _⟩ => ⟨S32x2048, .f32⟩
  | .hbm, ⟨53, _⟩ => ⟨S1x2048, .f32⟩
  | .hbm, ⟨54, _⟩ => ⟨S32x2048, .f32⟩
  | .hbm, ⟨55, _⟩ => ⟨S32x2048, .f32⟩
  | .hbm, ⟨56, _⟩ => ⟨S32x2048, .f32⟩
  | .hbm, ⟨57, _⟩ => ⟨S32x2048, .f32⟩
  | .hbm, ⟨58, _⟩ => ⟨S_, .f32⟩
  | .hbm, ⟨59, _⟩ => ⟨S32x2048, .f32⟩
  | .hbm, ⟨60, _⟩ => ⟨S32x2048, .f32⟩
  | .hbm, ⟨61, _⟩ => ⟨S_, .f32⟩
  | .hbm, ⟨62, _⟩ => ⟨S32x2048, .f32⟩
  | .hbm, ⟨63, _⟩ => ⟨S32x2048, .f32⟩
  | .hbm, ⟨64, _⟩ => ⟨S16x128x32, .f32⟩
  | .hbm, ⟨65, _⟩ => ⟨S32x16x128, .f32⟩
  | .hbm, ⟨66, _⟩ => ⟨S32x2048, .f32⟩
  | .hbm, ⟨67, _⟩ => ⟨S1x2048, .f32⟩
  | .hbm, ⟨68, _⟩ => ⟨S32x2048, .f32⟩
  | .hbm, ⟨69, _⟩ => ⟨S32x2048, .f32⟩
  | .hbm, ⟨70, _⟩ => ⟨S32x2048, .f32⟩
  | .hbm, ⟨71, _⟩ => ⟨S32x2048, .f32⟩
  | .hbm, ⟨72, _⟩ => ⟨S_, .f32⟩
  | .hbm, ⟨73, _⟩ => ⟨S32x2048, .f32⟩
  | .hbm, ⟨74, _⟩ => ⟨S32x2048, .f32⟩
  | .hbm, ⟨75, _⟩ => ⟨S_, .f32⟩
  | .hbm, ⟨76, _⟩ => ⟨S32x2048, .f32⟩
  | .hbm, ⟨77, _⟩ => ⟨S32x2048, .f32⟩
  | .hbm, ⟨78, _⟩ => ⟨S_, .f32⟩
  | .hbm, ⟨79, _⟩ => ⟨S32x2048, .f32⟩
  | .hbm, ⟨80, _⟩ => ⟨S32x2048, .f32⟩
  | .hbm, ⟨81, _⟩ => ⟨S2048, .f32⟩
  | .hbm, ⟨82, _⟩ => ⟨S_, .f32⟩
  | .hbm, ⟨83, _⟩ => ⟨S2048, .f32⟩
  | .hbm, ⟨84, _⟩ => ⟨S2048, .f32⟩
  | .hbm, ⟨85, _⟩ => ⟨S2048, .f32⟩
  | .hbm, ⟨86, _⟩ => ⟨S2048, .f32⟩
  | .hbm, ⟨87, _⟩ => ⟨S2048, .i1⟩
  | .hbm, ⟨88, _⟩ => ⟨S2048, .f32⟩
  | .hbm, ⟨89, _⟩ => ⟨S2048, .f32⟩
  | .hbm, ⟨90, _⟩ => ⟨S2048, .f32⟩
  | .hbm, ⟨91, _⟩ => ⟨S2048, .f32⟩
  | .hbm, ⟨92, _⟩ => ⟨S2048, .f32⟩
  | .hbm, ⟨93, _⟩ => ⟨S2048, .f32⟩
  | .hbm, ⟨94, _⟩ => ⟨S2048, .f32⟩
  | .hbm, ⟨95, _⟩ => ⟨S2048, .f32⟩
  | .hbm, ⟨96, _⟩ => ⟨S2048, .f32⟩
  | .hbm, ⟨97, _⟩ => ⟨S1x2048, .f32⟩
  | .hbm, ⟨98, _⟩ => ⟨S32x2048, .f32⟩
  | .hbm, ⟨99, _⟩ => ⟨S32x2048, .f32⟩
  | .hbm, ⟨100, _⟩ => ⟨S32x2048, .f32⟩
  | .hbm, ⟨101, _⟩ => ⟨S_, .f32⟩
  | .hbm, ⟨102, _⟩ => ⟨S32x2048, .f32⟩
  | .hbm, ⟨103, _⟩ => ⟨S32x2048, .f32⟩
  | .hbm, ⟨104, _⟩ => ⟨S32x2048, .f32⟩
  | .hbm, ⟨105, _⟩ => ⟨S32x2048, .f32⟩
  | .hbm, ⟨106, _⟩ => ⟨S32x2048, .f32⟩
  | .hbm, ⟨107, _⟩ => ⟨S32x2048, .f32⟩
  | .hbm, ⟨108, _⟩ => ⟨S32x2048, .f32⟩
  | .hbm, ⟨109, _⟩ => ⟨S32x2048, .f32⟩
  | .hbm, ⟨110, _⟩ => ⟨S32x2048, .f32⟩
  | .hbm, ⟨111, _⟩ => ⟨S32x2048, .f32⟩
  | .hbm, ⟨112, _⟩ => ⟨S32x2048, .f32⟩
  | .hbm, ⟨113, _⟩ => ⟨S_, .f32⟩
  | .hbm, ⟨114, _⟩ => ⟨S32x2048, .f32⟩
  | .hbm, ⟨115, _⟩ => ⟨S32x2048, .f32⟩
  | .hbm, ⟨116, _⟩ => ⟨S_, .f32⟩
  | .hbm, ⟨117, _⟩ => ⟨S32x2048, .f32⟩
  | .hbm, ⟨118, _⟩ => ⟨S32x2048, .f32⟩
  | .hbm, ⟨119, _⟩ => ⟨S32x2048, .f32⟩
  | .hbm, ⟨120, _⟩ => ⟨S32x2048, .f32⟩
  | .hbm, ⟨121, _⟩ => ⟨S32x2048, .bf16⟩
  | .hbm, ⟨122, _⟩ => ⟨S1x32x2048, .f32⟩
  | .hbm, ⟨123, _⟩ => ⟨S1x32x2048, .f32⟩
  | .hbm, ⟨124, _⟩ => ⟨S2x32x2048, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_0 : Ref sig .tc := ⟨.hbm, 58, rfl⟩
abbrev main_v46 : Ref sig .tc := ⟨.hbm, 59, rfl⟩
abbrev main_v47 : Ref sig .tc := ⟨.hbm, 60, rfl⟩
abbrev main_cst_1 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_2 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_cst_4 : Ref sig .tc := ⟨.hbm, 78, rfl⟩
abbrev main_v62 : Ref sig .tc := ⟨.hbm, 79, rfl⟩
abbrev main_v63 : Ref sig .tc := ⟨.hbm, 80, rfl⟩
abbrev main_call0_v0 : Ref sig .tc := ⟨.hbm, 81, rfl⟩
abbrev main_call0_call0_cst : Ref sig .tc := ⟨.hbm, 82, rfl⟩
abbrev main_call0_call0_v0 : Ref sig .tc := ⟨.hbm, 83, rfl⟩
abbrev main_call0_call0_v1 : Ref sig .tc := ⟨.hbm, 84, rfl⟩
abbrev main_call0_call0_v2 : Ref sig .tc := ⟨.hbm, 85, rfl⟩
abbrev main_call0_call0_v3 : Ref sig .tc := ⟨.hbm, 86, rfl⟩
abbrev main_call0_call0_v4 : Ref sig .tc := ⟨.hbm, 87, rfl⟩
abbrev main_call0_call0_v5 : Ref sig .tc := ⟨.hbm, 88, rfl⟩
abbrev main_call0_call0_v6 : Ref sig .tc := ⟨.hbm, 89, rfl⟩
abbrev main_call0_call0_v7 : Ref sig .tc := ⟨.hbm, 90, rfl⟩
abbrev main_call0_call0_v8 : Ref sig .tc := ⟨.hbm, 91, rfl⟩
abbrev main_call0_call0_v9 : Ref sig .tc := ⟨.hbm, 92, rfl⟩
abbrev main_call0_call0_v10 : Ref sig .tc := ⟨.hbm, 93, rfl⟩
abbrev main_call0_call0_v11 : Ref sig .tc := ⟨.hbm, 94, rfl⟩
abbrev main_call0_v1 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_5 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]
-- ==== Proof.StickBreakingRunIdeal.lean ====
/-
  The stick-breaking attention of the prompt, the run: one grid point is one head of one batch row. The body copies
  the head's keys and values into the cache slabs, attends the first sixteen rows by one tile, and then, by a loop of
  four trips, the blocks of 512 rows: a diagonal tile, the blocks before it from right to left, and the first sixteen
  columns.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.TableIdle
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The head's bias, one number of the eight. -/
abbrev rB (i : grid0.Coords) : Rect S8 := Rect.unit (s := S8) (k0_off1 i) S1.size (k0_off1_inb i)
/-- All rows of one head. -/
abbrev rA : Rect S1x2064x128 := Rect.unit (s := S1x2064x128) ![0, 0, 0] S1x2064x128.size inb_S1x2064x128_S1x2064x128_0_0_0
/-- The first 128 rows. -/
abbrev rM : Rect S1x2064x128 := Rect.unit (s := S1x2064x128) ![0, 0, 0] S1x128x128.size inb_S1x2064x128_S1x128x128_0_0_0
/-- The first 16 rows. -/
abbrev rH : Rect S1x2064x128 := Rect.unit (s := S1x2064x128) ![0, 0, 0] S1x16x128.size inb_S1x2064x128_S1x16x128_0_0_0
/-- The 512 rows of trip `k`. -/
abbrev rT (k : Fin k0_t1_loop.trips) : Rect S1x2064x128 := Rect.unit (s := S1x2064x128) (k0_off2 k) S1x512x128.size (k0_off2_inb k)
/-- The 512 rows the `j`-th earlier block of trip `k` has. -/
abbrev rJ (k : Fin k0_t1_loop.trips) (j : Fin (k0_t2_loop k).trips) : Rect S1x2064x128 := Rect.unit (s := S1x2064x128) (k0_off3 k j) S1x512x128.size (k0_off3_inb k j)
/-- All rows of one head of a slab. -/
abbrev rK : Rect S1x1x2064x128 := Rect.unit (s := S1x1x2064x128) ![0, 0, 0, 0] S1x1x2064x128.size inb_S1x1x2064x128_S1x1x2064x128_0_0_0_0

/-- What one earlier block makes of the accumulated output and the carried exponent. -/
def stepJ (b : Elt F .f32) (q : FVec F S512x128 .bf16) (kb vb : Vec F S1x512x128 .f32)
    (s : FVec F S512x128 .f32 × FVec F S512x1 .f32) : FVec F S512x128 .f32 × FVec F S512x1 .f32 :=
  (k0_pay39 s.1 (k0_pay2 vb) (k0_pay8 b k0_pay45 q s.2 kb) (k0_pay11 b k0_pay45 q s.2 kb),
    k0_pay38 (k0_pay4 b q kb) (k0_pay9 b k0_pay45 q s.2 kb) (k0_pay10 b k0_pay45 q kb))

/-- The accumulated output and carried exponent of trip `k` after `n` earlier blocks. -/
def stJ (b : Elt F .f32) (q : FVec F S512x128 .bf16) (x2 x3 : Vec F S1x2064x128 .f32) (k : Fin k0_t1_loop.trips)
    (init : FVec F S512x128 .f32 × FVec F S512x1 .f32) : ℕ → FVec F S512x128 .f32 × FVec F S512x1 .f32
  | 0 => init
  | n + 1 => if h : n < (k0_t2_loop k).trips then
      stepJ b q (View.ld x2 (rJ k ⟨n, h⟩)) (View.ld x3 (rJ k ⟨n, h⟩)) (stJ b q x2 x3 k init n)
    else stJ b q x2 x3 k init n

/-- The accumulated output and carried exponent after the diagonal tile, from the tile's queries, keys and values. -/
def diag (b : Elt F .f32) (qb kb vb : Vec F S1x512x128 .f32) : FVec F S512x128 .f32 × FVec F S512x1 .f32 :=
  (k0_pay37 k0_pay45 k0_pay23 k0_pay24 (k0_pay25 vb) (k0_pay28 b qb kb) k0_pay29 (k0_pay30 b qb kb) (k0_pay31 b qb kb) (k0_pay32 b k0_pay45 qb kb) (k0_pay33 b qb kb),
    k0_pay36 k0_pay45 k0_pay24 (k0_pay30 b qb kb) (k0_pay31 b qb kb) (k0_pay32 b k0_pay45 qb kb))

/-- What trip `k` has accumulated before the first sixteen columns. -/
def acc (b : Elt F .f32) (x1 x2 x3 : Vec F S1x2064x128 .f32) (k : Fin k0_t1_loop.trips) : FVec F S512x128 .f32 × FVec F S512x1 .f32 :=
  stJ b (k0_pay22 (View.ld x1 (rT k))) x2 x3 k (diag b (View.ld x1 (rT k)) (View.ld x2 (rT k)) (View.ld x3 (rT k))) (k0_t2_loop k).trips

/-- The 512 rows trip `k` stores. -/
def tripW (b : Elt F .f32) (x1 x2 x3 x4 : Vec F S1x2064x128 .f32) (k : Fin k0_t1_loop.trips) : FVec F S1x512x128 .bf16 :=
  k0_pay44 k0_pay46 (acc b x1 x2 x3 k).1 (acc b x1 x2 x3 k).2 (k0_pay42 (View.ld x3 rM))
    (k0_pay43 b (k0_pay22 (View.ld x1 (rT k))) (View.ld x2 rM)) (View.ld x4 (rT k))

/-- The first sixteen rows. -/
def headW (b : Elt F .f32) (x1 x2 x3 x4 : Vec F S1x2064x128 .f32) : FVec F S1x16x128 .bf16 :=
  k0_pay1 (k0_pay52 b k0_pay46 (k0_pay49 (View.ld x1 rM)) k0_pay50 k0_pay51 (View.ld x2 rM) (View.ld x3 rM))
    (k0_pay53 (View.ld x4 rH)) (k0_pay54 (View.ld x4 rH)) (Scalar.ofBits .f32 0x3F800000#32)

/-! ## The loops -/

section Loops

variable (c : Dev nD) (i : grid0.Coords) (arg2 : Memref sig .tc .smem S8 .f32) (harg2 : arg2.IsWhole) (arg3 : Memref sig .tc .vmem S1x2064x128 .f32) (harg3 : arg3.IsWhole) (arg4 : Memref sig .tc .vmem S1x2064x128 .f32) (harg4 : arg4.IsWhole) (arg5 : Memref sig .tc .vmem S1x2064x128 .f32) (harg5 : arg5.IsWhole) (arg6 : Memref sig .tc .vmem S1x2064x128 .f32) (harg6 : arg6.IsWhole) (arg7 : Memref sig .tc .hbm S2x8x2064x1024 .f32) (harg7 : arg7.IsWhole) (arg8 : Memref sig .tc .hbm S2x8x2064x1024 .f32) (harg8 : arg8.IsWhole) (arg9 : Memref sig .tc .vmem S1x2064x128 .bf16) (harg9 : arg9.IsWhole) (arg10 : Memref sig .tc .vmem S1x1x2064x128 .f32) (harg10 : arg10.IsWhole) (arg11 : Memref sig .tc .vmem S1x1x2064x128 .f32) (harg11 : arg11.IsWhole)

/-- The inner loop's carried value is the plain recursion's. -/
theorem st2_eq (v1 : Elt F .f32) (k : Fin k0_t1_loop.trips) (a12 : BitVec 32) (v92 : FVec F S512x128 .bf16) (v93 : FVec F S512x128 .f32) (v94 : FVec F S512x1 .f32) (v102 : FVec F S512x128 .bf16) (v116 : FVec F S512x512 .f32) (v119 : IVec S512x512 1) (v121 : FVec F S512x512 .f32) (v122 : FVec F S512x512 .bf16) (v124 : FVec F S512x256 .f32) (v125 : FVec F S512x256 .f32)
    (f2 : BufTy.Contents (Elt F) arg4.view.ty) (f3 : BufTy.Contents (Elt F) arg5.view.ty) (init : FVec F S512x128 .f32 × FVec F S512x1 .f32) (n : ℕ) :
    st_k0_t2 (F := F) Variants.none c none i arg2 harg2 arg3 harg3 arg4 harg4 arg5 harg5 arg6 harg6 arg7 harg7 arg8 harg8 arg9 harg9 arg10 harg10 arg11 harg11 v1 k0_pay45 k a12 v92 v93 v94 v102 v116 v119 v121 v122 v124 v125 f2 f3 init n
      = stJ v1 v92 (arg4.view.read (Elt F) f2) (arg5.view.read (Elt F) f3) k init n := by
  induction n with
  | zero => rfl
  | succ n ih =>
    rw [st_k0_t2.eq_2, stJ, ← ih]
    unfold st_k0_t2Step tripR_k0_t2 trip_k0_t2
    by_cases h : n < (k0_t2_loop k).trips
    · rw [dif_pos h, dif_pos h]; rfl
    · rw [dif_neg h, dif_neg h]

/-- The second inner loop has no trip. -/
theorem trips3 : ∀ k : Fin k0_t1_loop.trips, (k0_t3_loop k).trips = 0 := by decide +kernel

/-- So its carried value is the one it began with. -/
theorem st3_eq (v1 : Elt F .f32) (v8 : FVec F S256x256 .bf16) (k : Fin k0_t1_loop.trips) (a12 : BitVec 32) (v92 : FVec F S512x128 .bf16) (v93 : FVec F S512x128 .f32) (v94 : FVec F S512x1 .f32) (v102 : FVec F S512x128 .bf16) (v116 : FVec F S512x512 .f32) (v119 : IVec S512x512 1) (v121 : FVec F S512x512 .f32) (v122 : FVec F S512x512 .bf16) (v124 : FVec F S512x256 .f32) (v125 : FVec F S512x256 .f32) (v159 : BitVec 32)
    (f2 : BufTy.Contents (Elt F) arg4.view.ty) (f3 : BufTy.Contents (Elt F) arg5.view.ty) (init : FVec F S512x128 .f32 × FVec F S512x1 .f32) :
    st_k0_t3 (F := F) Variants.none c none i arg2 harg2 arg3 harg3 arg4 harg4 arg5 harg5 arg6 harg6 arg7 harg7 arg8 harg8 arg9 harg9 arg10 harg10 arg11 harg11 v1 v8 k a12 v92 v93 v94 v102 v116 v119 v121 v122 v124 v125 v159 f2 f3 init (k0_t3_loop k).trips = init := by
  rw [trips3 k]; rfl

/-- The output's staging buffer before trip `k`, from its contents at the loop's entry. -/
def outK (b : Elt F .f32) (f1 : BufTy.Contents (Elt F) arg3.view.ty) (f2 : BufTy.Contents (Elt F) arg4.view.ty) (f3 : BufTy.Contents (Elt F) arg5.view.ty) (f4 : BufTy.Contents (Elt F) arg6.view.ty) (o0 : BufTy.Contents (Elt F) arg9.view.ty) : ℕ → BufTy.Contents (Elt F) arg9.view.ty
  | 0 => o0
  | n + 1 => if h : n < k0_t1_loop.trips then
      arg9.view.writes (Elt F) (outK b f1 f2 f3 f4 o0 n) [⟨rT ⟨n, h⟩, tripW b (arg3.view.read (Elt F) f1) (arg4.view.read (Elt F) f2) (arg5.view.read (Elt F) f3) (arg6.view.read (Elt F) f4) ⟨n, h⟩⟩]
    else outK b f1 f2 f3 f4 o0 n

/-- The outer loop has four trips. -/
theorem trips1 : k0_t1_loop.trips = 4 := by decide +kernel

/-- Trip `j` of the outer loop. -/
def kk (j : Fin 4) : Fin k0_t1_loop.trips := Fin.cast trips1.symm j

/-- After the four trips the output's buffer has the four stores, the last in front. -/
theorem outK_trips (b : Elt F .f32) (f1 : BufTy.Contents (Elt F) arg3.view.ty) (f2 : BufTy.Contents (Elt F) arg4.view.ty) (f3 : BufTy.Contents (Elt F) arg5.view.ty) (f4 : BufTy.Contents (Elt F) arg6.view.ty) (o0 : BufTy.Contents (Elt F) arg9.view.ty)
    (w : Fin 4 → Vec F S1x512x128 .bf16) (hw : ∀ j, w j = tripW b (arg3.view.read (Elt F) f1) (arg4.view.read (Elt F) f2) (arg5.view.read (Elt F) f3) (arg6.view.read (Elt F) f4) (kk j)) :
    outK arg3 arg4 arg5 arg6 arg9 b f1 f2 f3 f4 o0 k0_t1_loop.trips
      = arg9.view.writes (Elt F) o0 [⟨rT (kk 3), w 3⟩, ⟨rT (kk 2), w 2⟩, ⟨rT (kk 1), w 1⟩, ⟨rT (kk 0), w 0⟩] := by
  have st : ∀ j : Fin 4, outK arg3 arg4 arg5 arg6 arg9 b f1 f2 f3 f4 o0 (j.val + 1)
      = arg9.view.writes (Elt F) (outK arg3 arg4 arg5 arg6 arg9 b f1 f2 f3 f4 o0 j.val) [⟨rT (kk j), w j⟩] := fun j => by
    rw [outK, dif_pos (show j.val < k0_t1_loop.trips from (kk j).isLt), hw j]
    rfl
  rw [trips1]
  have e0 := st 0
  have e1 := st 1
  have e2 := st 2
  have e3 := st 3
  rw [show outK arg3 arg4 arg5 arg6 arg9 b f1 f2 f3 f4 o0 4 = _ from e3, show outK arg3 arg4 arg5 arg6 arg9 b f1 f2 f3 f4 o0 (3 : Fin 4).val = _ from e2,
    show outK arg3 arg4 arg5 arg6 arg9 b f1 f2 f3 f4 o0 (2 : Fin 4).val = _ from e1, show outK arg3 arg4 arg5 arg6 arg9 b f1 f2 f3 f4 o0 (1 : Fin 4).val = _ from e0]
  rfl

set_option warn.classDefReducibility false in
set_option maxHeartbeats 1000000 in
/-- The outer loop by its invariant: the inputs' buffers as found, the output's at the rows of the trips before. -/
@[sl_loop] def loopInv1 (v1 : Elt F .f32) (f1 : BufTy.Contents (Elt F) arg3.view.ty) (f2 : BufTy.Contents (Elt F) arg4.view.ty) (f3 : BufTy.Contents (Elt F) arg5.view.ty) (f4 : BufTy.Contents (Elt F) arg6.view.ty) (o0 : BufTy.Contents (Elt F) arg9.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 v1 k0_pay45 k0_pay46 where
  inv k _ := iprop((arg3.view.loc (c : Thread nD τ) ↦[arg3.view.set]{fullShare} f1) ∗ (arg4.view.loc (c : Thread nD τ) ↦[arg4.view.set]{fullShare} f2) ∗ (arg5.view.loc (c : Thread nD τ) ↦[arg5.view.set]{fullShare} f3) ∗ (arg6.view.loc (c : Thread nD τ) ↦[arg6.view.set]{fullShare} f4) ∗ (arg9.view.loc (c : Thread nD τ) ↦[arg9.view.set]{fullShare} outK arg3 arg4 arg5 arg6 arg9 v1 f1 f2 f3 f4 o0 k))
  step k _ := by
    unfold k0_t1_body
    iintro ⟨H1, H2, H3, H4, H5⟩
    sl_exec
    sl_step
    isplitl [H1]; · iexact H1
    isplitl [H2]; · iexact H2
    isplitl [H3]; · iexact H3
    isplitl [H4]; · iexact H4
    rw [outK, dif_pos k.isLt]
    have e : ∀ (a a' : FVec F S512x128 .f32) (b b' : FVec F S512x1 .f32) (u : FVec F S128x128 .bf16) (w : FVec F S512x128 .f32) (x : Vec F S1x512x128 .f32), a = a' → b = b' →
        arg9.view.writes (Elt F) (outK arg3 arg4 arg5 arg6 arg9 v1 f1 f2 f3 f4 o0 k) [⟨rT k, k0_pay44 k0_pay46 a b u w x⟩]
          = arg9.view.writes (Elt F) (outK arg3 arg4 arg5 arg6 arg9 v1 f1 f2 f3 f4 o0 k) [⟨rT k, k0_pay44 k0_pay46 a' b' u w x⟩] :=
      fun a a' b b' u w x h1 h2 => by rw [h1, h2]
    refine Entails.of_eq (congrArg (fun f => (arg9.view.loc (c : Thread nD τ) ↦[arg9.view.set]{fullShare} f)) (e _ _ _ _ _ _ _ ?_ ?_))
    · exact congrArg Prod.fst ((st3_eq ..).trans (st2_eq ..))
    · exact congrArg Prod.snd ((st3_eq ..).trans (st2_eq ..))

end Loops

/-! ## The body's triple -/

/-- The head's bias as the body reads it. -/
def biasAt (i : grid0.Coords) (x0 : Vec F S8 .f32) : Elt F .f32 := View.ld x0 (rB i) (Shape.Idx.first (s := S1) (numel1_S1.symm ▸ Nat.one_pos))

/-- Trip `j` is at row `16 + 512 j`. -/
theorem off2_eq : ∀ j : Fin 4, k0_off2 (kk j) = ![0, 16 + 512 * j.val, 0] := by decide +kernel

/-- The output's buffer after the body. -/
def out5 (b : Elt F .f32) (x1 x2 x3 x4 : Vec F S1x2064x128 .f32) : Vec F S1x2064x128 .bf16 :=
  View.canon [⟨rT (kk 3), tripW b x1 x2 x3 x4 (kk 3)⟩, ⟨rT (kk 2), tripW b x1 x2 x3 x4 (kk 2)⟩, ⟨rT (kk 1), tripW b x1 x2 x3 x4 (kk 1)⟩, ⟨rT (kk 0), tripW b x1 x2 x3 x4 (kk 0)⟩, ⟨rH, headW b x1 x2 x3 x4⟩]
/-- The keys' slab after the body. -/
def out6 (x2 : Vec F S1x2064x128 .f32) : Vec F S1x1x2064x128 .f32 := View.canon [⟨rK, k0_pay47 (View.ld x2 rA)⟩]
/-- The values' slab after the body. -/
def out7 (x3 : Vec F S1x2064x128 .f32) : Vec F S1x1x2064x128 .f32 := View.canon [⟨rK, k0_pay48 (View.ld x3 rA)⟩]

/-- The five stores of the output cover it: rows below 16, then each 512 rows. -/
theorem cover_out (w : (j : Fin 4) → Vec F S1x512x128 .bf16) (p : Vec F S1x16x128 .bf16) (y : S1x2064x128.Idx) :
    ∃ pc ∈ ([⟨rT (kk 3), w 3⟩, ⟨rT (kk 2), w 2⟩, ⟨rT (kk 1), w 1⟩, ⟨rT (kk 0), w 0⟩, ⟨rH, p⟩] : List (View.Piece (Elt F) S1x2064x128 .bf16)), y ∈ pc.1.set := by
  have h0 : (y 0).val = 0 := Nat.lt_one_iff.mp (y 0).isLt
  have h1 : (y 1).val < 2064 := (y 1).isLt
  have h2 : (y 2).val < 128 := (y 2).isLt
  have hm : ∀ j : Fin 4, 16 + 512 * j.val ≤ (y 1).val → (y 1).val < 16 + 512 * j.val + 512 → y ∈ (rT (kk j)).set := fun j ha hb => by
    refine Rect.mem_set_unit.mpr fun a => ?_
    rw [off2_eq j]
    fin_cases a
    · exact ⟨Nat.zero_le _, by show (y 0).val < 0 + 1; omega⟩
    · exact ⟨ha, hb⟩
    · exact ⟨Nat.zero_le _, by show (y 2).val < 0 + 128; omega⟩
  by_cases ha : (y 1).val < 16
  · refine ⟨⟨rH, p⟩, by simp, ?_⟩
    show y ∈ (rH).set
    refine Rect.mem_set_unit.mpr fun a => ?_
    fin_cases a
    · exact ⟨Nat.zero_le _, by show (y 0).val < 0 + 1; omega⟩
    · exact ⟨Nat.zero_le _, by show (y 1).val < 0 + 16; omega⟩
    · exact ⟨Nat.zero_le _, by show (y 2).val < 0 + 128; omega⟩
  by_cases hb : (y 1).val < 528
  · exact ⟨⟨rT (kk 0), w 0⟩, by simp, hm 0 (by show 16 + 512 * 0 ≤ _; omega) (by show _ < 16 + 512 * 0 + 512; omega)⟩
  by_cases hc : (y 1).val < 1040
  · exact ⟨⟨rT (kk 1), w 1⟩, by simp, hm 1 (by show 16 + 512 * 1 ≤ _; omega) (by show _ < 16 + 512 * 1 + 512; omega)⟩
  by_cases hd : (y 1).val < 1552
  · exact ⟨⟨rT (kk 2), w 2⟩, by simp, hm 2 (by show 16 + 512 * 2 ≤ _; omega) (by show _ < 16 + 512 * 2 + 512; omega)⟩
  · exact ⟨⟨rT (kk 3), w 3⟩, by simp, hm 3 (by show 16 + 512 * 3 ≤ _; omega) (by show _ < 16 + 512 * 3 + 512; omega)⟩

/-- A slab's one store covers the head's rows. -/
theorem cover_slab (p : Vec F S1x1x2064x128 .f32) (y : S1x1x2064x128.Idx) :
    ∃ pc ∈ ([⟨rK, p⟩] : List (View.Piece (Elt F) S1x1x2064x128 .f32)), y ∈ pc.1.set :=
  View.cover_of_tiled [⟨rK, p⟩] S1x1x2064x128.size (by rfl) y

set_option maxHeartbeats 1000000 in
/-- The body leaves the copies of the keys and values, and the attention's rows. -/
theorem sound_cc0 (c : Dev nD) (i : grid0.Coords) (arg2 : Memref sig .tc .smem S8 .f32) (harg2 : arg2.IsWhole) (arg3 : Memref sig .tc .vmem S1x2064x128 .f32) (harg3 : arg3.IsWhole) (arg4 : Memref sig .tc .vmem S1x2064x128 .f32) (harg4 : arg4.IsWhole) (arg5 : Memref sig .tc .vmem S1x2064x128 .f32) (harg5 : arg5.IsWhole) (arg6 : Memref sig .tc .vmem S1x2064x128 .f32) (harg6 : arg6.IsWhole) (arg7 : Memref sig .tc .hbm S2x8x2064x1024 .f32) (harg7 : arg7.IsWhole) (arg8 : Memref sig .tc .hbm S2x8x2064x1024 .f32) (harg8 : arg8.IsWhole) (arg9 : Memref sig .tc .vmem S1x2064x128 .bf16) (harg9 : arg9.IsWhole) (arg10 : Memref sig .tc .vmem S1x1x2064x128 .f32) (harg10 : arg10.IsWhole) (arg11 : Memref sig .tc .vmem S1x1x2064x128 .f32) (harg11 : arg11.IsWhole)
    (x0 : Vec F S8 .f32) (x1 x2 x3 x4 : Vec F S1x2064x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare (out5 (biasAt i x0) x1 x2 x3 x4) ∗ owns (c : Thread nD τ) arg10 fullShare (out6 x2) ∗ owns (c : Thread nD τ) arg11 fullShare (out7 x3)) -∗ K ⟨⟩))
      ⊢ wp frame (wpE (defs₀ (F := F)) Variants.none c none) Set.univ (cc0_sb_prompt i arg2 harg2 arg3 harg3 arg4 harg4 arg5 harg5 arg6 harg6 arg7 harg7 arg8 harg8 arg9 harg9 arg10 harg10 arg11 harg11) K := by
  simp only [cc0_sb_prompt_eq_skeleton]; unfold cc0_sb_prompt_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (congrArg (arg9.view.read (Elt F)) (outK_trips arg3 arg4 arg5 arg6 arg9 _ f1 f2 f3 f4 _
      (fun j => tripW (biasAt i (arg2.view.read (Elt F) f0)) (arg3.view.read (Elt F) f1) (arg4.view.read (Elt F) f2) (arg5.view.read (Elt F) f3) (arg6.view.read (Elt F) f4) (kk j)) fun j => rfl)).trans ?_
    exact View.read_writes_eq_canon arg9.view f5 [⟨rT (kk 3), tripW (biasAt i (arg2.view.read (Elt F) f0)) (arg3.view.read (Elt F) f1) (arg4.view.read (Elt F) f2) (arg5.view.read (Elt F) f3) (arg6.view.read (Elt F) f4) (kk 3)⟩, ⟨rT (kk 2), tripW (biasAt i (arg2.view.read (Elt F) f0)) (arg3.view.read (Elt F) f1) (arg4.view.read (Elt F) f2) (arg5.view.read (Elt F) f3) (arg6.view.read (Elt F) f4) (kk 2)⟩, ⟨rT (kk 1), tripW (biasAt i (arg2.view.read (Elt F) f0)) (arg3.view.read (Elt F) f1) (arg4.view.read (Elt F) f2) (arg5.view.read (Elt F) f3) (arg6.view.read (Elt F) f4) (kk 1)⟩, ⟨rT (kk 0), tripW (biasAt i (arg2.view.read (Elt F) f0)) (arg3.view.read (Elt F) f1) (arg4.view.read (Elt F) f2) (arg5.view.read (Elt F) f3) (arg6.view.read (Elt F) f4) (kk 0)⟩, ⟨rH, headW (biasAt i (arg2.view.read (Elt F) f0)) (arg3.view.read (Elt F) f1) (arg4.view.read (Elt F) f2) (arg5.view.read (Elt F) f3) (arg6.view.read (Elt F) f4)⟩]
      (cover_out (fun j => tripW (biasAt i (arg2.view.read (Elt F) f0)) (arg3.view.read (Elt F) f1) (arg4.view.read (Elt F) f2) (arg5.view.read (Elt F) f3) (arg6.view.read (Elt F) f4) (kk j)) _)
  isplitl [H6]
  · iexists _; isplitr
    swap; · iexact H6
    ipureintro
    exact View.read_writes_eq_canon _ _ _ (cover_slab _)
  iexists _; isplitr
  swap; · iexact H7
  ipureintro
  exact View.read_writes_eq_canon _ _ _ (cover_slab _)

/-! ## The pipeline's proof data -/

/-- The proof data: each input's buffer at its block, the attention's rows and the two copies of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (biasAt (grid0.coords t) (iblk m c 0 t)) (iblk m c 1 t) (iblk m c 2 t) (iblk m c 3 t) (iblk m c 4 t)
    | ⟨6, _⟩ => out6 (iblk m c 2 t)
    | ⟨7, _⟩ => out7 (iblk m c 3 t)
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves in the biases' buffer. -/
theorem after0_0 (c : Dev nD) (t : Fin cfg0.N) : (dats m 0 c).after 0 t = iblk m c 0 t := by dsimp only [dats]
/-- What the body leaves in the queries' buffer. -/
theorem after0_1 (c : Dev nD) (t : Fin cfg0.N) : (dats m 0 c).after 1 t = iblk m c 1 t := by dsimp only [dats]
/-- What the body leaves in the keys' buffer. -/
theorem after0_2 (c : Dev nD) (t : Fin cfg0.N) : (dats m 0 c).after 2 t = iblk m c 2 t := by dsimp only [dats]
/-- What the body leaves in the values' buffer. -/
theorem after0_3 (c : Dev nD) (t : Fin cfg0.N) : (dats m 0 c).after 3 t = iblk m c 3 t := by dsimp only [dats]
/-- What the body leaves in the gate inputs' buffer. -/
theorem after0_4 (c : Dev nD) (t : Fin cfg0.N) : (dats m 0 c).after 4 t = iblk m c 4 t := by dsimp only [dats]
/-- What the body leaves in the output's buffer. -/
theorem after0_5 (c : Dev nD) (t : Fin cfg0.N) : (dats m 0 c).after 5 t = out5 (biasAt (grid0.coords t) (iblk m c 0 t)) (iblk m c 1 t) (iblk m c 2 t) (iblk m c 3 t) (iblk m c 4 t) := by dsimp only [dats]
/-- What the body leaves in the keys' slab's buffer. -/
theorem after0_6 (c : Dev nD) (t : Fin cfg0.N) : (dats m 0 c).after 6 t = out6 (iblk m c 2 t) := by dsimp only [dats]
/-- What the body leaves in the values' slab's buffer. -/
theorem after0_7 (c : Dev nD) (t : Fin cfg0.N) : (dats m 0 c).after 7 t = out7 (iblk m c 3 t) := by dsimp only [dats]

/-- The biases' buffer holds its block at every point. -/
theorem before0_0 (c : Dev nD) (t : Fin cfg0.N) (d) : (dats m 0 c).before 0 t d = iblk m c 0 t :=
  before0_0_of m (dats m 0 c) (A_eq m c 0) (after0_0 m c) t d
/-- The queries' buffer holds its block at every point. -/
theorem before0_1 (c : Dev nD) (t : Fin cfg0.N) (d) : (dats m 0 c).before 1 t d = iblk m c 1 t :=
  before0_1_of m (dats m 0 c) (A_eq m c 1) (after0_1 m c) t d
/-- The keys' buffer holds its block at every point. -/
theorem before0_2 (c : Dev nD) (t : Fin cfg0.N) (d) : (dats m 0 c).before 2 t d = iblk m c 2 t :=
  before0_2_of m (dats m 0 c) (A_eq m c 2) (after0_2 m c) t d
/-- The values' buffer holds its block at every point. -/
theorem before0_3 (c : Dev nD) (t : Fin cfg0.N) (d) : (dats m 0 c).before 3 t d = iblk m c 3 t :=
  before0_3_of m (dats m 0 c) (A_eq m c 3) (after0_3 m c) t d
/-- The gate inputs' buffer holds its block at every point. -/
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_cc0 c (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact sound_body m c t

/-! ## The run and the frame -/

set_option backward.isDefEq.respectTransparency.types false in
set_option maxHeartbeats 800000 in
/-- The run: every array of the pipeline ends at what the proof data says, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.StickBreakingSums.lean ====
/-
  Stick-breaking attention, the arithmetic over the extended reals: what a row's weights, its running sum and its
  output are as sums over the columns to the right, and how a group of columns extends them.
-/
module
public import proofs.«01_k».proof.Proof.StickBreakingRunIdeal
public import Idealize.ShloMosaic.Lib.Pipeline.ValueKit
@[expose] public section
set_option maxRecDepth 16384
noncomputable section
open Idealize.ShloMosaic Idealize.ShloMosaic.TcCoe Idealize.SL.Sem
namespace Cert.Proof.StickBreaking
open Cert.KernelIdeal Cert.KernelIdeal.Gen Cert.KernelIdeal.Hand

/-- The softplus of a score, as the kernel computes it. -/
def sp (z : Ideal .f32) : Ideal .f32 := max z 0 + Ideal.log (1 + Ideal.exp (0 - FloatOps.absf z))

variable (Z : ℕ → ℕ → Ideal .f32) (v : ℕ → Fin 128 → Ideal .f32)

/-- The logarithm of what column `j` leaves of row `t`'s stick: minus the softplus of the score where `j` is visible
    from `t`, else zero. -/
def L (t j : ℕ) : Ideal .f32 := if j < t then -sp (Z t j) else 0

/-- The sum of these logarithms over the columns from `J` on. -/
def C (t J : ℕ) : Ideal .f32 := ∑ j ∈ Finset.Ico J 2064, L Z t j

/-- The weight of column `j` in row `t`. -/
def A (t j : ℕ) : Ideal .f32 := if j < t then Ideal.exp (Z t j - sp (Z t j) + C Z t (j + 1)) else 0

/-- The weighted sum of the values of the columns from `J` on. -/
def O (t J : ℕ) (d : Fin 128) : Ideal .f32 := ∑ j ∈ Finset.Ico J 2064, A Z t j * v j d

/-- A product with the strictly lower triangular matrix of minus ones sums, with the sign turned, the entries to
    the right. -/
theorem sum_tri {n : ℕ} (g s : ℕ) (f : Fin n → EReal) (G : ℕ → EReal) (h : ∀ x : Fin n, -f x = G (g + x.val)) :
    ∑ x : Fin n, f x * (if s < x.val then -1 else 0) = ∑ j ∈ Finset.Ico (g + s + 1) (g + n), G j := by
  have e : ∀ x : Fin n, f x * (if s < x.val then -1 else 0) = if s < x.val then G (g + x.val) else 0 := fun x => by
    split
    · rw [← h, mul_neg, mul_one]
    · rw [mul_zero]
  rw [Finset.sum_congr rfl fun x _ => e x, Fin.sum_univ_eq_sum_range (fun x => if s < x then G (g + x) else 0) n,
    ← Finset.sum_filter]
  refine Finset.sum_nbij' (fun x => g + x) (fun j => j - g) ?_ ?_ ?_ ?_ ?_ <;> intro x <;>
    simp only [Finset.mem_filter, Finset.mem_range, Finset.mem_Ico] <;> intro hx
  all_goals first | omega | trivial

theorem C_split (t J K : ℕ) (h : J ≤ K) (hK : K ≤ 2064) : ∑ j ∈ Finset.Ico J K, L Z t j + C Z t K = C Z t J :=
  Finset.sum_Ico_consecutive _ h hK

/-- Adding the first entry of the triangular product less the first softplus carries the sum over the group. -/
theorem C_group (t g n : ℕ) (hn : 0 < n) (h : g + n ≤ 2064) (f : EReal) (hf : -f = L Z t g) :
    C Z t (g + n) + (∑ j ∈ Finset.Ico (g + 0 + 1) (g + n), L Z t j - f) = C Z t g := by
  rw [← C_split Z t g (g + n) (by omega) h, Finset.sum_eq_sum_Ico_succ_bot (by omega : g < g + n), sub_eq_add_neg, hf,
    add_zero, add_comm, add_comm (∑ j ∈ Finset.Ico (g + 1) (g + n), L Z t j)]

theorem O_split (t J K : ℕ) (h : J ≤ K) (hK : K ≤ 2064) (d : Fin 128) :
    O Z v t K d + ∑ j ∈ Finset.Ico J K, A Z t j * v j d = O Z v t J d := by
  rw [add_comm]; exact Finset.sum_Ico_consecutive _ h hK

/-- The columns from the row on hold nothing. -/
theorem C_zero (t J : ℕ) (h : t ≤ J) : C Z t J = 0 :=
  Finset.sum_eq_zero fun j hj => if_neg (by have := (Finset.mem_Ico.mp hj).1; omega)

theorem O_zero (t J : ℕ) (h : t ≤ J) (d : Fin 128) : O Z v t J d = 0 :=
  Finset.sum_eq_zero fun j hj => by
    rw [A, if_neg (by have := (Finset.mem_Ico.mp hj).1; omega), zero_mul]

/-- A sum over a group's columns as a sum over its range. -/
theorem sum_group (n g : ℕ) (G : ℕ → EReal) : ∑ x : Fin n, G (g + x.val) = ∑ j ∈ Finset.Ico g (g + n), G j := by
  rw [Fin.sum_univ_eq_sum_range (fun x => G (g + x)) n, Finset.sum_Ico_eq_sum_range, Nat.add_sub_cancel_left]

/-- The weight inside a group, from the triangular product and the sum carried in. -/
theorem A_group (t g n s : ℕ) (hs : s < n) (hg : g + n ≤ 2064) (ht : g + s < t) :
    Ideal.exp (Z t (g + s) - sp (Z t (g + s)) + ∑ j ∈ Finset.Ico (g + s + 1) (g + n), L Z t j + C Z t (g + n))
      = A Z t (g + s) := by
  rw [A, if_pos ht, add_assoc, C_split Z t _ _ (by omega) hg]

/-- A choice on the signed order of two small index words is a choice on the order of the numbers. -/
theorem sel_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [h, Scalar.select]

theorem sel_sgt {α : Type} {a b : ℕ} (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat ha hb]
  by_cases h : b < a <;> simp [h, Scalar.select]

/-- The 256-wide triangle's entries. -/
theorem tri256 (x s : Fin 256) : k0_pay45 (F := Ideal) (ix2 x s) = if s.val < x.val then -1 else 0 := by
  pointwise [k0_pay45]
  rw [sel_sgt (by omega) (by omega), show Ideal.ofBits FTy.f32 3212836864#32 = -1 from IdealRules.sign_bit.ideal_negOnePat .f32]

/-- The 128-wide triangle's entries. -/
theorem tri128 (x s : Fin 128) : k0_pay46 (F := Ideal) (ix2 x s) = if s.val < x.val then -1 else 0 := by
  pointwise [k0_pay46]
  rw [sel_sgt (by omega) (by omega), show Ideal.ofBits FTy.f32 3212836864#32 = -1 from IdealRules.sign_bit.ideal_negOnePat .f32]

/-- One block of 512 columns left of the rows' block: from the output and the running sum of the columns on its
    right to those with it. -/
theorem step_spec (b : Elt Ideal .f32) (q : FVec Ideal S512x128 .bf16) (kb vb : Vec Ideal S1x512x128 .f32)
    (s : FVec Ideal S512x128 .f32 × FVec Ideal S512x1 .f32) (T J : ℕ) (hJ : J + 512 ≤ T) (hT : J + 512 ≤ 2064)
    (hz : ∀ r x, k0_pay3 b q kb (ix2 r x) = Z (T + r.val) (J + x.val)) (hv : ∀ x d, vb (ix3 0 x d) = v (J + x.val) d)
    (ha : ∀ r d, s.1 (ix2 r d) = O Z v (T + r.val) (J + 512) d) (hc : ∀ r, s.2 (ix2 r 0) = C Z (T + r.val) (J + 512)) :
    (∀ r d, (stepJ b q kb vb s).1 (ix2 r d) = O Z v (T + r.val) J d)
      ∧ ∀ r, (stepJ b q kb vb s).2 (ix2 r 0) = C Z (T + r.val) J := by
  have hsp : ∀ r x, k0_pay4 b q kb (ix2 r x) = sp (Z (T + r.val) (J + x.val)) := fun r x => by
    rw [← hz]; unfold k0_pay4; generalize k0_pay3 b q kb = z; pointwise; rfl
  have hL : ∀ (r : Fin 512) (x : Fin 512), -sp (Z (T + r.val) (J + x.val)) = L Z (T + r.val) (J + x.val) := fun r x =>
    (if_pos (by omega)).symm
  have e7 : ∀ r x, k0_pay7 b k0_pay45 q kb (ix2 r x)
      = ∑ j ∈ Finset.Ico (J + 256 + x.val + 1) (J + 256 + 256), L Z (T + r.val) j := fun r x => by
    rw [← sum_tri (n := 256) (J + 256) x.val (fun i => sp (Z (T + r.val) (J + 256 + i.val))) (L Z (T + r.val))
      (fun i => by have := hL r ⟨256 + i.val, by omega⟩; simpa [Nat.add_assoc] using this)]
    unfold k0_pay7 k0_pay6
    generalize k0_pay4 b q kb = z at hsp
    pointwise [hsp, tri256]
    simp only [Nat.add_assoc]
  have e10 : ∀ r x, k0_pay10 b k0_pay45 q kb (ix2 r x)
      = ∑ j ∈ Finset.Ico (J + x.val + 1) (J + 256), L Z (T + r.val) j := fun r x => by
    rw [← sum_tri (n := 256) J x.val (fun i => sp (Z (T + r.val) (J + i.val))) (L Z (T + r.val))
      (fun i => by have := hL r ⟨i.val, by omega⟩; simpa [Nat.add_assoc] using this)]
    unfold k0_pay10 k0_pay6
    generalize k0_pay4 b q kb = z at hsp
    pointwise [hsp, tri256]
  have e9 : ∀ r, k0_pay9 b k0_pay45 q s.2 kb (ix2 r 0) = C Z (T + r.val) (J + 256) := fun r => by
    rw [← C_group Z (T + r.val) (J + 256) 256 (by omega) (by omega) (sp (Z (T + r.val) (J + 256))) (hL r ⟨256, by omega⟩)]
    unfold k0_pay9
    have h7 := e7 r 0
    generalize k0_pay7 b k0_pay45 q kb = z at h7
    generalize k0_pay4 b q kb = z at hsp
    pointwise [hsp, h7, hc]
  have e8 : ∀ r x, k0_pay8 b k0_pay45 q s.2 kb (ix2 r x) = A Z (T + r.val) (J + 256 + x.val) := fun r x => by
    rw [← A_group Z (T + r.val) (J + 256) 256 x.val (by omega) (by omega) (by omega)]
    unfold k0_pay8 k0_pay5
    have h7 := e7 r x
    generalize k0_pay7 b k0_pay45 q kb = z at h7
    generalize k0_pay4 b q kb = z at hsp
    generalize k0_pay3 b q kb = z at hz
    pointwise [hsp, hz, h7, hc]
    simp only [Nat.add_assoc]
  have e11 : ∀ r x, k0_pay11 b k0_pay45 q s.2 kb (ix2 r x) = A Z (T + r.val) (J + x.val) := fun r x => by
    rw [← A_group Z (T + r.val) J 256 x.val (by omega) (by omega) (by omega)]
    unfold k0_pay11 k0_pay5
    have h10 := e10 r x
    generalize k0_pay10 b k0_pay45 q kb = z at h10
    generalize k0_pay9 b k0_pay45 q s.2 kb = z at e9
    generalize k0_pay4 b q kb = z at hsp
    generalize k0_pay3 b q kb = z at hz
    pointwise [hsp, hz, h10, e9]
  constructor
  · intro r d
    unfold stepJ
    simp only
    generalize k0_pay8 b k0_pay45 q s.2 kb = z at e8
    generalize k0_pay11 b k0_pay45 q s.2 kb = z at e11
    pointwise [k0_pay39, k0_pay2, e8, e11, hv, ha]
    have h1 := sum_group 256 J fun j => A Z (T + r.val) j * v j d
    have h2 := sum_group 256 (J + 256) fun j => A Z (T + r.val) j * v j d
    simp only [← Nat.add_assoc]
    rw [h1, h2, ← O_split Z v _ J (J + 512) (by omega) hT, Finset.sum_Ico_consecutive _ (by omega) (by omega)]
  · intro r
    rw [← C_group Z (T + r.val) J 256 (by omega) (by omega) (sp (Z (T + r.val) J)) (hL r 0)]
    unfold stepJ
    have h10 := e10 r 0
    generalize k0_pay10 b k0_pay45 q kb = z at h10
    generalize k0_pay9 b k0_pay45 q s.2 kb = z at e9
    generalize k0_pay4 b q kb = z at hsp
    pointwise [k0_pay38, hsp, h10, e9]

/-- The rows' own block: only the columns left of a row count, and nothing lies on the block's right. -/
theorem diag_spec (b : Elt Ideal .f32) (qb kb vb : Vec Ideal S1x512x128 .f32) (T : ℕ) (hT : T + 512 ≤ 2064)
    (hz : ∀ r x, k0_pay26 b qb kb (ix2 r x) = Z (T + r.val) (T + x.val)) (hv : ∀ x d, vb (ix3 0 x d) = v (T + x.val) d) :
    (∀ r d, (diag b qb kb vb).1 (ix2 r d) = O Z v (T + r.val) T d) ∧ ∀ r, (diag b qb kb vb).2 (ix2 r 0) = C Z (T + r.val) T := by
  have hsp : ∀ r x, k0_pay27 b qb kb (ix2 r x) = sp (Z (T + r.val) (T + x.val)) := fun r x => by
    rw [← hz]; unfold k0_pay27; generalize k0_pay26 b qb kb = z; pointwise; rfl
  have hm : ∀ r x, k0_pay30 b qb kb (ix2 r x) = if x.val < r.val then sp (Z (T + r.val) (T + x.val)) else 0 := fun r x => by
    unfold k0_pay30
    generalize k0_pay27 b qb kb = z at hsp
    pointwise [k0_pay29, hsp]
    rw [sel_slt (by omega) (by omega)]
  have hL : ∀ (r : Fin 512) (x : Fin 512), -(if x.val < r.val then sp (Z (T + r.val) (T + x.val)) else 0 : EReal) = L Z (T + r.val) (T + x.val) :=
    fun r x => by
    unfold L
    by_cases h : x.val < r.val
    · rw [if_pos h, if_pos (by omega)]
    · rw [if_neg h, if_neg (by omega), neg_zero]
  have hc : ∀ r : Fin 512, C Z (T + r.val) (T + 256 + 256) = (0 : EReal) := fun r => C_zero Z _ _ (by omega)
  have e32 : ∀ r x, k0_pay32 b k0_pay45 qb kb (ix2 r x)
      = ∑ j ∈ Finset.Ico (T + 256 + x.val + 1) (T + 256 + 256), L Z (T + r.val) j := fun r x => by
    rw [← sum_tri (n := 256) (T + 256) x.val _ (L Z (T + r.val))
      (fun i => by have := hL r ⟨256 + i.val, by omega⟩; simpa only [Nat.add_assoc] using this)]
    unfold k0_pay32 k0_pay31
    generalize k0_pay30 b qb kb = z at hm
    pointwise [hm, tri256]
  have e35 : ∀ r x, k0_pay35 k0_pay45 (k0_pay31 b qb kb) (ix2 r x)
      = ∑ j ∈ Finset.Ico (T + x.val + 1) (T + 256), L Z (T + r.val) j := fun r x => by
    rw [← sum_tri (n := 256) T x.val _ (L Z (T + r.val))
      (fun i => by have := hL r ⟨i.val, by omega⟩; simpa only [Nat.add_assoc] using this)]
    unfold k0_pay35 k0_pay31
    generalize k0_pay30 b qb kb = z at hm
    pointwise [hm, tri256]
  have e34 : ∀ r, k0_pay34 k0_pay24 (k0_pay30 b qb kb) (k0_pay32 b k0_pay45 qb kb) (ix2 r 0) = C Z (T + r.val) (T + 256) :=
    fun r => by
    rw [← C_group Z (T + r.val) (T + 256) 256 (by omega) (by omega) _ (hL r ⟨256, by omega⟩), hc]
    unfold k0_pay34 k0_pay24
    have h := e32 r 0
    generalize k0_pay32 b k0_pay45 qb kb = z at h
    generalize k0_pay30 b qb kb = z at hm
    pointwise [hm, h]
  have e28 : ∀ r x, k0_pay28 b qb kb (ix2 r x) = Z (T + r.val) (T + x.val) - sp (Z (T + r.val) (T + x.val)) := fun r x => by
    unfold k0_pay28
    generalize k0_pay26 b qb kb = z at hz
    generalize k0_pay27 b qb kb = z at hsp
    pointwise [hz, hsp]
  constructor
  · intro r d
    unfold diag k0_pay37
    simp only
    generalize k0_pay34 k0_pay24 (k0_pay30 b qb kb) (k0_pay32 b k0_pay45 qb kb) = z at e34
    generalize k0_pay35 k0_pay45 (k0_pay31 b qb kb) = z at e35
    generalize k0_pay32 b k0_pay45 qb kb = z at e32
    unfold k0_pay33
    generalize k0_pay28 b qb kb = z at e28
    pointwise [k0_pay25, k0_pay23, k0_pay24, k0_pay29, e34, e35, e32, e28, hv]
    have h1 := sum_group 256 T fun j => A Z (T + r.val) j * v j d
    have h2 := sum_group 256 (T + 256) fun j => A Z (T + r.val) j * v j d
    have e0 := O_split Z v (T + r.val) T (T + 512) (by omega) hT d
    rw [O_zero Z v _ (T + 512) (by omega), zero_add,
      ← Finset.sum_Ico_consecutive _ (show T ≤ T + 256 by omega) (show T + 256 ≤ T + 512 by omega)] at e0
    rw [← e0, ← h1, ← h2]
    congr 1
    · refine Finset.sum_congr rfl fun x _ => ?_
      rw [sel_slt (by omega) (by omega)]
      by_cases hx : x.val < r.val
      · rw [if_pos hx, A_group Z (T + r.val) T 256 x.val (by omega) (by omega) (by omega)]
      · rw [if_neg hx, A, if_neg (by omega), zero_mul]
    · refine Finset.sum_congr rfl fun x _ => ?_
      rw [sel_slt (by omega) (by omega), ← Nat.add_assoc]
      by_cases hx : 256 + x.val < r.val
      · rw [if_pos hx, ← A_group Z (T + r.val) (T + 256) 256 x.val (by omega) (by omega) (by omega), hc, add_zero]
      · rw [if_neg hx, A, if_neg (by omega), zero_mul]
  · intro r
    rw [← C_group Z (T + r.val) T 256 (by omega) (by omega) _ (hL r 0)]
    unfold diag k0_pay36
    simp only
    generalize k0_pay34 k0_pay24 (k0_pay30 b qb kb) (k0_pay32 b k0_pay45 qb kb) = z at e34
    have h := e35 r 0
    generalize k0_pay35 k0_pay45 (k0_pay31 b qb kb) = z at h
    generalize k0_pay30 b qb kb = z at hm
    pointwise [hm, h, e34]

/-- The gate the output is multiplied with. -/
def gate (z : Ideal .f32) : Ideal .f32 := z * Ideal.div 1 (1 + Ideal.exp (0 - z))

theorem sum_cut (a m n : ℕ) (h : m ≤ n) (G : ℕ → EReal) :
    ∑ j ∈ Finset.Ico a n, (if j < m then G j else 0) = ∑ j ∈ Finset.Ico a m, G j := by
  rw [← Finset.sum_filter]
  congr 1
  ext j
  simp only [Finset.mem_filter, Finset.mem_Ico]
  omega

/-- The first `m` columns, read in a tile of 128 with the others masked, added to what lies on their right. -/
theorem narrow (t m : ℕ) (h : m ≤ t) (hm : m ≤ 128) (d : Fin 128) :
    O Z v t m d + ∑ x : Fin 128, (if x.val < m then Ideal.exp (Z t x.val - sp (Z t x.val)
        + (∑ y : Fin 128, if y.val < m then sp (Z t y.val) * (if x.val < y.val then -1 else 0) else 0) + C Z t m) * v x.val d else 0)
      = O Z v t 0 d := by
  have e : ∀ x : Fin 128, (if x.val < m then Ideal.exp (Z t x.val - sp (Z t x.val)
        + (∑ y : Fin 128, if y.val < m then sp (Z t y.val) * (if x.val < y.val then -1 else 0) else 0) + C Z t m) * v x.val d else 0)
      = if 0 + x.val < m then A Z t (0 + x.val) * v (0 + x.val) d else 0 := fun x => by
    rw [zero_add]
    by_cases hx : x.val < m
    · rw [if_pos hx, if_pos hx]
      have h1 := sum_tri 0 x.val (fun y : Fin 128 => if y.val < m then sp (Z t y.val) else 0) (fun j => if j < m then L Z t j else 0)
        (fun y => by
          rw [zero_add]
          by_cases hy : y.val < m
          · simp only [if_pos hy, L, if_pos (show y.val < t by omega)]
          · simp only [if_neg hy, neg_zero])
      rw [zero_add, zero_add, sum_cut _ m 128 hm] at h1
      simp only [ite_zero_mul] at h1
      rw [h1, A, if_pos (by omega), add_assoc, C_split Z t _ _ (by omega) (by omega)]
    · rw [if_neg hx, if_neg hx]
  rw [Finset.sum_congr rfl fun x _ => e x, sum_group 128 0 fun j => if j < m then A Z t j * v j d else 0, sum_cut _ m _ (by omega),
    O_split Z v t 0 m (by omega) (by omega)]

/-- The first 16 columns, added to what lies on their right; then the gate. -/
theorem meta_spec (b : Elt Ideal .f32) (q : FVec Ideal S512x128 .bf16) (km vm : Vec Ideal S1x128x128 .f32) (zb : Vec Ideal S1x512x128 .f32)
    (a : FVec Ideal S512x128 .f32) (c : FVec Ideal S512x1 .f32) (T : ℕ) (hT : 16 ≤ T)
    (hz : ∀ r x, k0_pay43 b q km (ix2 r x) = Z (T + r.val) x.val) (hv : ∀ x d, vm (ix3 0 x d) = v x.val d)
    (ha : ∀ r d, a (ix2 r d) = O Z v (T + r.val) 16 d) (hc : ∀ r, c (ix2 r 0) = C Z (T + r.val) 16) (r : Fin 512) (d : Fin 128) :
    k0_pay44 k0_pay46 a c (k0_pay42 vm) (k0_pay43 b q km) zb (ix3 0 r d)
      = O Z v (T + r.val) 0 d * gate (zb (ix3 0 r d)) := by
  unfold k0_pay44
  generalize k0_pay43 b q km = z at hz
  pointwise [k0_pay42, hz, hv, ha, hc, tri128]
  have hsp : ∀ w : Ideal .f32, max w 0 + Ideal.log (1 + Ideal.exp (0 - FloatOps.absf w)) = sp w := fun _ => rfl
  have hsl : ∀ (x : Fin 128) (a b : EReal), Scalar.select (IntOp.cmpi .slt (BitVec.ofNat 32 x.val) 16#32) a b = if x.val < 16 then a else b :=
    fun x a b => sel_slt (by omega) (by omega) a b
  simp only [hsp, hsl]
  rw [narrow Z v (T + r.val) 16 (by omega) (by omega) d, gate]

/-- The first 16 rows. -/
theorem head_spec (b : Elt Ideal .f32) (q k vm : Vec Ideal S1x128x128 .f32) (zb : Vec Ideal S1x16x128 .f32)
    (hz : ∀ r x : Fin 128, (∑ d : Fin 128, k0_pay49 q (ix2 r d) * k (ix3 0 x d)) + b = Z r.val x.val) (hv : ∀ x d, vm (ix3 0 x d) = v x.val d)
    (r : Fin 16) (d : Fin 128) :
    k0_pay1 (k0_pay52 b k0_pay46 (k0_pay49 q) k0_pay50 k0_pay51 k vm) (k0_pay53 zb) (k0_pay54 zb) (Scalar.ofBits .f32 0x3F800000#32) (ix3 0 r d)
      = O Z v r.val 0 d * gate (zb (ix3 0 r d)) := by
  unfold k0_pay52
  generalize k0_pay49 q = z at hz
  pointwise [k0_pay1, k0_pay53, k0_pay54, k0_pay50, k0_pay51, hv, tri128]
  have hz' := fun x => hz ⟨r.val, by omega⟩ x
  have hsp : ∀ w : Ideal .f32, max w 0 + Ideal.log (1 + Ideal.exp (0 - FloatOps.absf w)) = sp w := fun _ => rfl
  have hsl : ∀ (x : Fin 128) (a b : EReal), Scalar.select (IntOp.cmpi .slt (BitVec.ofNat 32 x.val) (BitVec.ofNat 32 r.val)) a b
      = if x.val < r.val then a else b := fun x a b => sel_slt (by omega) (by omega) a b
  simp only [hz', hsp, hsl]
  have h := narrow Z v r.val r.val le_rfl (by omega) d
  rw [O_zero Z v _ _ le_rfl, C_zero Z _ _ le_rfl, zero_add] at h
  simp only [add_zero] at h
  rw [h, gate]

end Cert.Proof.StickBreaking

end
-- ==== Proof.StickBreakingRows.lean ====
/-
  Stick-breaking attention, the body's output: each row holds the weighted sum over all columns left of it, times its
  gate.
-/
module
public import proofs.«01_k».proof.Proof.StickBreakingSums
public import Idealize.ShloMosaic.Lib.Pipeline.ReadBack
@[expose] public section
set_option maxRecDepth 16384
noncomputable section
open Idealize.ShloMosaic Idealize.ShloMosaic.TcCoe Idealize.SL.Sem
namespace Cert.Proof.StickBreaking
open Cert.KernelIdeal Cert.KernelIdeal.Gen Cert.KernelIdeal.Hand

/-- Entry `d` of row `r` of one head. -/
def row (x : Vec Ideal S1x2064x128 .f32) (r : ℕ) (d : Fin 128) : Ideal .f32 := x (ix3 0 ⟨r % 2064, Nat.mod_lt _ (by decide)⟩ d)

/-- The score of column `j` in row `t`: the scaled query times the key, plus the head's bias. -/
def Zs (b : Ideal .f32) (x1 x2 : Vec Ideal S1x2064x128 .f32) (t j : ℕ) : Ideal .f32 :=
  ∑ d : Fin 128, row x1 t d * Ideal.ofBits .f32 0x3DB504F3#32 * row x2 j d + b

/-- Block `n` of trip `i`, counted from the diagonal leftwards, is at row `16 + 512 (i - 1 - n)`. -/
theorem off3_eq : ∀ (i : Fin 4) (j : Fin (k0_t2_loop (kk i)).trips), k0_off3 (kk i) j = ![0, 16 + 512 * (i.val - 1 - j.val), 0] := by
  decide +kernel

theorem trips2 : ∀ i : Fin 4, (k0_t2_loop (kk i)).trips = i.val := by decide +kernel

/-- A row of a block of rows read from the whole. -/
theorem ld_row (x : Vec Ideal S1x2064x128 .f32) {n : ℕ} (off : Fin 3 → ℕ) (T : ℕ) (ho : off = ![0, T, 0])
    (inb : ∀ a, off a + (![1, n, 128] : Fin 3 → ℕ) a ≤ S1x2064x128.size a) (r : Fin n) (d : Fin 128) :
    View.ld x (Rect.unit (s := S1x2064x128) off ![1, n, 128] inb) (ix3 0 r d) = row x (T + r.val) d := by
  subst ho
  have h : T + n ≤ 2064 := inb 1
  exact View.ld_unit_apply_of x _ _ inb _ _ (by simp [Fin.forall_fin_succ, ix3, Nat.mod_eq_of_lt (show T + r.val < 2064 by omega)])

variable (b : Ideal .f32) (x1 x2 x3 x4 : Vec Ideal S1x2064x128 .f32)

theorem off_T (i : Fin 4) (x : Vec Ideal S1x2064x128 .f32) (r : Fin 512) (d : Fin 128) :
    View.ld x (rT (kk i)) (ix3 0 r d) = row x (16 + 512 * i.val + r.val) d := ld_row x _ _ (off2_eq i) _ r d

theorem off_J (i : Fin 4) (j) (x : Vec Ideal S1x2064x128 .f32) (r : Fin 512) (d : Fin 128) :
    View.ld x (rJ (kk i) j) (ix3 0 r d) = row x (16 + 512 * (i.val - 1 - j.val) + r.val) d := ld_row x _ _ (off3_eq i j) _ r d

theorem off_M (x : Vec Ideal S1x2064x128 .f32) (r d : Fin 128) : View.ld x rM (ix3 0 r d) = row x r.val d :=
  (ld_row x _ 0 rfl _ r d).trans (by rw [zero_add])

/-- After `n` blocks left of the diagonal the output and the running sum hold the columns from the last one's first. -/
theorem stJ_spec (i : Fin 4) (n : ℕ) (hn : n ≤ i.val) :
    (∀ r d, (stJ b (k0_pay22 (View.ld x1 (rT (kk i)))) x2 x3 (kk i) (diag b (View.ld x1 (rT (kk i))) (View.ld x2 (rT (kk i))) (View.ld x3 (rT (kk i)))) n).1 (ix2 r d)
        = O (Zs b x1 x2) (row x3) (16 + 512 * i.val + r.val) (16 + 512 * (i.val - n)) d)
      ∧ ∀ r, (stJ b (k0_pay22 (View.ld x1 (rT (kk i)))) x2 x3 (kk i) (diag b (View.ld x1 (rT (kk i))) (View.ld x2 (rT (kk i))) (View.ld x3 (rT (kk i)))) n).2 (ix2 r 0)
        = C (Zs b x1 x2) (16 + 512 * i.val + r.val) (16 + 512 * (i.val - n)) := by
  induction n with
  | zero =>
    refine diag_spec (Zs b x1 x2) (row x3) b _ _ _ _ (by omega) (fun r x => ?_) (fun x d => off_T i x3 x d)
    have h1 := off_T i x1
    have h2 := off_T i x2
    generalize View.ld x1 (rT (kk i)) = X1 at h1
    generalize View.ld x2 (rT (kk i)) = X2 at h2
    pointwise [k0_pay26, k0_pay22, h1, h2]
    rfl
  | succ n ih =>
    have hlt : n < (k0_t2_loop (kk i)).trips := by rw [trips2]; omega
    have ih := ih (by omega)
    rw [stJ, dif_pos hlt]
    have e : 16 + 512 * (i.val - n) = 16 + 512 * (i.val - 1 - n) + 512 := by omega
    have e' : i.val - (n + 1) = i.val - 1 - n := by omega
    rw [e] at ih
    rw [e']
    refine step_spec (Zs b x1 x2) (row x3) b _ _ _ _ _ _ (by omega) (by omega) (fun r x => ?_) (fun x d => off_J i ⟨n, hlt⟩ x3 x d) ih.1 ih.2
    have h1 := off_T i x1
    have h2 := off_J i ⟨n, hlt⟩ x2
    generalize View.ld x1 (rT (kk i)) = X1 at h1
    generalize View.ld x2 (rJ (kk i) ⟨n, hlt⟩) = X2 at h2
    pointwise [k0_pay3, k0_pay22, h1, h2]
    rfl

/-- A trip's rows. -/
theorem trip_spec (i : Fin 4) (r : Fin 512) (d : Fin 128) : tripW b x1 x2 x3 x4 (kk i) (ix3 0 r d)
    = O (Zs b x1 x2) (row x3) (16 + 512 * i.val + r.val) 0 d * gate (row x4 (16 + 512 * i.val + r.val) d) := by
  have h := stJ_spec b x1 x2 x3 i i.val le_rfl
  rw [Nat.sub_self, Nat.mul_zero, Nat.add_zero] at h
  rw [← off_T i x4]
  refine meta_spec (Zs b x1 x2) (row x3) b _ _ _ _ _ _ (16 + 512 * i.val) (by omega) (fun r x => ?_) (fun x d => off_M x3 x d)
    (by rw [acc, trips2]; exact h.1) (by rw [acc, trips2]; exact h.2) r d
  have h1 := off_T i x1
  have h2 := off_M x2
  generalize View.ld x1 (rT (kk i)) = X1 at h1
  generalize View.ld x2 rM = X2 at h2
  pointwise [k0_pay43, k0_pay22, h1, h2]
  rfl

/-- The first sixteen rows. -/
theorem headW_spec (r : Fin 16) (d : Fin 128) : headW b x1 x2 x3 x4 (ix3 0 r d)
    = O (Zs b x1 x2) (row x3) r.val 0 d * gate (row x4 r.val d) := by
  have h4 : View.ld x4 rH (ix3 0 r d) = row x4 r.val d := (ld_row x4 _ 0 rfl _ r d).trans (by rw [zero_add])
  rw [← h4]
  refine head_spec (Zs b x1 x2) (row x3) b _ _ _ _ (fun r x => ?_) (fun x d => off_M x3 x d) r d
  have h1 := off_M x1
  have h2 := off_M x2
  generalize View.ld x1 rM = X1 at h1
  generalize View.ld x2 rM = X2 at h2
  pointwise [k0_pay49, h1, h2]
  rfl

/-- The body's output, by row and entry. -/
def att (y : S1x2064x128.Idx) : Ideal .f32 := O (Zs b x1 x2) (row x3) (y 1).val 0 (y 2) * gate (row x4 (y 1).val (y 2))

theorem att_trip (i : Fin 4) (x : (rT (kk i)).shape.Idx) : tripW b x1 x2 x3 x4 (kk i) x = att b x1 x2 x3 x4 ((rT (kk i)).emb x) := by
  have e1 : ((rT (kk i)).emb x 1).val = 16 + 512 * i.val + (x 1).val :=
    (ValueKit.rect_emb_unit_val _ _ _ x 1).trans (congrArg (· + (x 1).val) (congrFun (off2_eq i) 1))
  have e2 : (rT (kk i)).emb x 2 = x 2 := Fin.ext ((ValueKit.rect_emb_unit_val _ _ _ x 2).trans
    ((congrArg (· + (x 2).val) (congrFun (off2_eq i) 2)).trans (Nat.zero_add _)))
  have e3 : x = ix3 0 (x 1) (x 2) := funext fun a => by
    fin_cases a
    · exact Subsingleton.elim (α := Fin 1) _ _
    · rfl
    · rfl
  rw [att, e1, e2]
  exact (congrArg _ e3).trans (trip_spec b x1 x2 x3 x4 i (x 1) (x 2))

theorem att_head (x : rH.shape.Idx) : headW b x1 x2 x3 x4 x = att b x1 x2 x3 x4 (rH.emb x) := by
  have e1 : (rH.emb x 1).val = (x 1).val := by rw [ValueKit.rect_emb_unit_val]; exact Nat.zero_add _
  have e2 : rH.emb x 2 = x 2 := Fin.ext (by rw [ValueKit.rect_emb_unit_val]; exact Nat.zero_add _)
  have e3 : x = ix3 0 (x 1) (x 2) := funext fun a => by
    fin_cases a
    · exact Subsingleton.elim (α := Fin 1) _ _
    · rfl
    · rfl
  rw [att, e1, e2]
  exact (congrArg _ e3).trans (headW_spec b x1 x2 x3 x4 (x 1) (x 2))

/-- The body's output is that at every entry. -/
theorem out5_spec (y : S1x2064x128.Idx) : out5 b x1 x2 x3 x4 y = att b x1 x2 x3 x4 y := by
  have ht := att_trip b x1 x2 x3 x4
  have hh := att_head b x1 x2 x3 x4
  unfold out5
  generalize tripW b x1 x2 x3 x4 = w at ht
  generalize headW b x1 x2 x3 x4 = p at hh
  generalize att b x1 x2 x3 x4 = G at ht hh
  exact View.canon_apply_of_pieces (Val := Elt Ideal) (e := .bf16) G
    [⟨rT (kk 3), w (kk 3)⟩, ⟨rT (kk 2), w (kk 2)⟩, ⟨rT (kk 1), w (kk 1)⟩, ⟨rT (kk 0), w (kk 0)⟩, ⟨rH, p⟩]
    (View.PiecesOf.mem ⟨ht 3, ht 2, ht 1, ht 0, hh, trivial⟩) y (cover_out (F := Ideal) (fun j => w (kk j)) p y)

end Cert.Proof.StickBreaking

end
-- ==== Proof.StickBreakingValue.lean ====
/-
  Stick-breaking attention, the values: the attention's output, the keys' slab and the values' slab are the reference's.
-/
module

public import proofs.«01_k».proof.Proof.StickBreakingRows
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.StickBreaking

section Ref
open Cert.ReferenceIdeal Cert.ReferenceIdeal.Gen

variable (P : FVec Ideal S8x2064x8192 .f32) (B : FVec Ideal S8 .f32)

/-- Queries, keys and values: 1024 columns each of the layer's 3072, split into heads. -/
def QR : FVec Ideal S8x2064x8x128 .f32 :=
  shapeCast _ (extractStridedSlice S8x2064x1024 ![0, 0, 0] (extractStridedSlice S8x2064x3072 ![0, 0, 3072] P slices_S8x2064x8192_S8x2064x3072_0_0_3072) slices_S8x2064x3072_S8x2064x1024_0_0_0) shapeCasts_S8x2064x1024_S8x2064x8x128
def KR : FVec Ideal S8x2064x8x128 .f32 :=
  shapeCast _ (extractStridedSlice S8x2064x1024 ![0, 0, 1024] (extractStridedSlice S8x2064x3072 ![0, 0, 3072] P slices_S8x2064x8192_S8x2064x3072_0_0_3072) slices_S8x2064x3072_S8x2064x1024_0_0_1024) shapeCasts_S8x2064x1024_S8x2064x8x128
def VR : FVec Ideal S8x2064x8x128 .f32 :=
  shapeCast _ (extractStridedSlice S8x2064x1024 ![0, 0, 2048] (extractStridedSlice S8x2064x3072 ![0, 0, 3072] P slices_S8x2064x8192_S8x2064x3072_0_0_3072) slices_S8x2064x3072_S8x2064x1024_0_0_2048) shapeCasts_S8x2064x1024_S8x2064x8x128

/-- The scores. -/
def SC : FVec Ideal S8x8x2064x2064 .f32 :=
  addf (mulf (Host.dotGeneral dot_S8x2064x8x128_S8x2064x8x128_S8x8x2064x2064_3_3_1_1_02_02 none (QR P) (KR P)) (broadcastInDim S8x8x2064x2064 ![] bcast_S_S8x8x2064x2064 (constant S_ .f32 0x3DB504F3#32))) (broadcastInDim S8x8x2064x2064 ![0, 1, 2, 3] bcast_S1x8x1x1_S8x8x2064x2064_0_1_2_3 (broadcastInDim S1x8x1x1 ![1] bcast_S8_S1x8x1x1_1 B))

/-- The reference's softplus. -/
def SOFTPLUS (x : FVec Ideal S8x8x2064x2064 .f32) : FVec Ideal S8x8x2064x2064 .f32 :=
  select (cmpf .une (subf x (broadcastInDim S8x8x2064x2064 ![] bcast_S_S8x8x2064x2064 (constant S_ .f32 0x00000000#32))) (subf x (broadcastInDim S8x8x2064x2064 ![] bcast_S_S8x8x2064x2064 (constant S_ .f32 0x00000000#32))))
    (addf x (broadcastInDim S8x8x2064x2064 ![] bcast_S_S8x8x2064x2064 (constant S_ .f32 0x00000000#32)))
    (addf (maximumf x (broadcastInDim S8x8x2064x2064 ![] bcast_S_S8x8x2064x2064 (constant S_ .f32 0x00000000#32)))
      (Host.log1p (Host.exp (Host.negf (Host.absf (subf x (broadcastInDim S8x8x2064x2064 ![] bcast_S_S8x8x2064x2064 (constant S_ .f32 0x00000000#32))))))))

/-- Its logarithm of the sigmoid. -/
def LOGSIG (x : FVec Ideal S8x8x2064x2064 .f32) : FVec Ideal S8x8x2064x2064 .f32 := Host.negf (SOFTPLUS (Host.negf x))

/-- An array where the column is left of the row, zero elsewhere. -/
def VIS (x : FVec Ideal S8x8x2064x2064 .f32) : FVec Ideal S8x8x2064x2064 .f32 :=
  select (broadcastInDim S8x8x2064x2064 ![2, 3] bcast_S2064x2064_S8x8x2064x2064_2_3 (cmpi .slt (broadcastInDim S2064x2064 ![0, 1] bcast_S1x2064_S2064x2064_0_1 (broadcastInDim S1x2064 ![1] bcast_S2064_S1x2064_1 (iotaInDim S2064 32 0))) (broadcastInDim S2064x2064 ![0, 1] bcast_S2064x1_S2064x2064_0_1 (broadcastInDim S2064x1 ![0] bcast_S2064_S2064x1_0 (iotaInDim S2064 32 0)))))
    x (broadcastInDim S8x8x2064x2064 ![] bcast_S_S8x8x2064x2064 (id (constant S_ .f32 0x00000000#32)))

/-- The reference's running sum from the right. -/
def CUM (x : FVec Ideal S8x8x2064x2064 .f32) : FVec Ideal S8x8x2064x2064 .f32 :=
  Host.reduceWindowAdd ![1, 1, 1, 2064] ![1, 1, 1, 1] ![0, 0, 0, 0] ![0, 0, 0, 2063] x (broadcastInDim S_ ![] bcast_S_S_ (constant S_ .f32 0x00000000#32)) reduceWindows_S8x8x2064x2064_S8x8x2064x2064_w1s1p0_0_w1s1p0_0_w1s1p0_0_w2064s1p0_2063 h_S_

/-- What each column leaves of the stick, as a logarithm. -/
def LEFT : FVec Ideal S8x8x2064x2064 .f32 := VIS (LOGSIG (Host.negf (SC P B)))

/-- The weights. -/
def WT : FVec Ideal S8x8x2064x2064 .f32 :=
  VIS (Host.exp (addf (LOGSIG (SC P B)) (subf (CUM (LEFT P B)) (LEFT P B))))

/-- The reference's first result. -/
def REF1 : FVec Ideal S8x2064x1024 .bf16 :=
  truncf .bf16 (mulf (shapeCast _ (transpose S8x2064x8x128 [0, 3, 1, 2] (Host.dotGeneral dot_S8x2064x8x128_S8x8x2064x2064_S8x8x128x2064_1_3_3_2_02_01 none (VR P) (WT P B)) transposes_S8x8x128x2064_S8x2064x8x128_0_3_1_2) shapeCasts_S8x2064x8x128_S8x2064x1024)
    (mulf (extractStridedSlice S8x2064x1024 ![0, 0, 7168] P slices_S8x2064x8192_S8x2064x1024_0_0_7168)
      (Host.divf (broadcastInDim S8x2064x1024 ![] bcast_S_S8x2064x1024 (constant S_ .f32 0x3F800000#32)) (addf (broadcastInDim S8x2064x1024 ![] bcast_S_S8x2064x1024 (constant S_ .f32 0x3F800000#32)) (Host.exp (Host.negf (extractStridedSlice S8x2064x1024 ![0, 0, 7168] P slices_S8x2064x8192_S8x2064x1024_0_0_7168))))))) bitsLt_bf16_f32

/-- A slab's two layers: the first as given, the second the layer's keys (or values) with the heads joined. -/
def SLAB (S : FVec Ideal S2x8x2064x1024 .f32) (K : FVec Ideal S8x2064x8x128 .f32) : FVec Ideal S2x8x2064x1024 .f32 :=
  concatenate S2x8x2064x1024 0 [⟨S1x8x2064x1024, (broadcastInDim S1x8x2064x1024 ![1, 2, 3] bcast_S8x2064x1024_S1x8x2064x1024_1_2_3 (shapeCast _ (extractStridedSlice S1x8x2064x1024 ![0, 0, 0, 0] S slices_S2x8x2064x1024_S1x8x2064x1024_0_0_0_0) shapeCasts_S1x8x2064x1024_S8x2064x1024))⟩, ⟨S1x8x2064x1024, (broadcastInDim S1x8x2064x1024 ![1, 2, 3] bcast_S8x2064x1024_S1x8x2064x1024_1_2_3 (shapeCast _ K shapeCasts_S8x2064x8x128_S8x2064x1024))⟩] concatenates_S1x8x2064x1024_S1x8x2064x1024_S2x8x2064x1024_d0

/-- The reference's first result, named. -/
theorem res_eq (m : (ℓ : Loc nD τ sig) → Buf (Elt Ideal) ℓ) (c : Dev nD) : Cert.ReferenceIdeal.Value.res_main_v34 m c
    = REF1 (m ((c.tc : Thread nD τ).loc main_arg0)) (m ((c.tc : Thread nD τ).loc main_arg1)) := rfl

/-- The scale is a nonnegative real. -/
theorem scale_real : ∃ r : ℝ, 0 ≤ r ∧ Ideal.ofBits .f32 0x3DB504F3#32 = (r : EReal) := by
  refine ⟨_, ?_, by simp [Ideal.ofBits, Ideal.ieee, -EReal.coe_mul]; rfl⟩
  positivity

/-- A sum of products, scaled, is the sum with one factor scaled. -/
theorem scale_sum {n : ℕ} (f g : Fin n → EReal) :
    (∑ d, f d * g d) * Ideal.ofBits .f32 0x3DB504F3#32 = ∑ d, f d * Ideal.ofBits .f32 0x3DB504F3#32 * g d := by
  obtain ⟨r, hr, e⟩ := scale_real
  rw [e, mul_comm]
  have : ∀ s : Finset (Fin n), (r : EReal) * ∑ d ∈ s, f d * g d = ∑ d ∈ s, f d * (r : EReal) * g d := fun s => by
    induction s using Finset.cons_induction with
    | empty => simp
    | cons a s ha ih =>
      rw [Finset.sum_cons, Finset.sum_cons, EReal.left_distrib_of_nonneg_of_ne_top (EReal.coe_nonneg.mpr hr) (EReal.coe_ne_top r), ih,
        mul_comm (f a) r, mul_assoc]
  exact this _

/-- The reference's softplus at an entry is the softplus of the entry: over the extended reals nothing differs from itself. -/
theorem soft_at (x) (y : S8x8x2064x2064.Idx) : SOFTPLUS x y = sp (x y) := by
  pointwise [SOFTPLUS]
  rw [if_neg (not_not.mpr rfl), sp, Ideal.log1p, zero_sub]

/-- The masked array at an entry. -/
theorem vis_at (x) (b h : Fin 8) (t j : Fin 2064) : VIS x (ix4 b h t j) = if j.val < t.val then x (ix4 b h t j) else 0 := by
  pointwise [VIS]
  rw [sel_slt (by omega) (by omega)]
  congr 1
  exact Ideal.ofBits_zero .f32

/-- A row's window of the running sum runs over the columns only. -/
def winIdx : Fin 2064 ≃ Shape.Idx ⟨4, ![1, 1, 1, 2064]⟩ where
  toFun k := ix4 0 0 0 k
  invFun a := a 3
  left_inv _ := rfl
  right_inv a := by
    funext i
    match i with
    | 0 => exact Subsingleton.elim (α := Fin 1) _ _
    | 1 => exact Subsingleton.elim (α := Fin 1) _ _
    | 2 => exact Subsingleton.elim (α := Fin 1) _ _
    | 3 => rfl

/-- A left fold of additions is the start plus the sum. -/
theorem foldl_sum {n : ℕ} (f : Fin n → EReal) (v : EReal) :
    (List.finRange n).foldl (fun r k => r + f k) v = v + ∑ k, f k := by
  rw [← List.sum_ofFn, List.ofFn_eq_map]
  generalize List.finRange n = l
  induction l generalizing v with
  | nil => simp
  | cons a l ih => simp [ih, add_assoc]

/-- A windowed sum is the sum over the window's positions. -/
theorem window_sum {s t : Shape} (window strides lo hi : Fin s.rank → ℕ) (x : s.Idx → EReal)
    (h : s.ReduceWindows window strides lo hi t) (j : t.Idx) (v : EReal) :
    Ideal.hostReduceWindowAdd window strides lo hi h x v j = v + ∑ w : Shape.Idx ⟨s.rank, window⟩,
      if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else v := by
  refine (foldl_sum _ _).trans ?_
  congr 1
  rw [← Equiv.sum_comp (Shape.rowMajor ⟨s.rank, window⟩).symm]
  refine Finset.sum_congr rfl fun k _ => ?_
  congr

/-- The running sum from the right is a sum over a window of the columns, padding counting nothing. -/
theorem cum_window (x : FVec Ideal S8x8x2064x2064 .f32) (y : S8x8x2064x2064.Idx) :
    CUM x y = Ideal.hostReduceWindowAdd ![1, 1, 1, 2064] ![1, 1, 1, 1] ![0, 0, 0, 0] ![0, 0, 0, 2063]
      reduceWindows_S8x8x2064x2064_S8x8x2064x2064_w1s1p0_0_w1s1p0_0_w1s1p0_0_w2064s1p0_2063 x (Ideal.ofBits .f32 0#32) y := by
  unfold CUM Host.reduceWindowAdd
  rfl

/-- The running sum from the right, at a column: the sum over the columns from it on. -/
theorem cum_at (x : FVec Ideal S8x8x2064x2064 .f32) (b h : Fin 8) (t j : Fin 2064) (G : ℕ → EReal)
    (hG : ∀ k : Fin 2064, x (ix4 b h t k) = G k.val) : CUM x (ix4 b h t j) = ∑ k ∈ Finset.Ico j.val 2064, G k := by
  rw [cum_window, window_sum, show Ideal.ofBits .f32 0#32 = (0 : EReal) from Ideal.ofBits_zero .f32]
  rw [zero_add, ← Equiv.sum_comp winIdx, ← sum_cut j.val 2064 (j.val + 2064) (by omega),
    ← sum_group 2064 j.val (fun k => if k < 2064 then G k else 0)]
  refine Finset.sum_congr rfl fun k _ => ?_
  have w0 : (winIdx k 0).val = 0 := rfl
  have w1 : (winIdx k 1).val = 0 := rfl
  have w2 : (winIdx k 2).val = 0 := rfl
  have w3 : (winIdx k 3).val = k.val := rfl
  by_cases hk : j.val + k.val < 2064
  · rw [if_pos hk, ← hG ⟨_, hk⟩, dif_pos]
    · congr 1
      funext a
      match a with
      | 0 => exact Fin.ext (by simp [w0, w1, w2, w3, ix4])
      | 1 => exact Fin.ext (by simp [w0, w1, w2, w3, ix4])
      | 2 => exact Fin.ext (by simp [w0, w1, w2, w3, ix4])
      | 3 => exact Fin.ext (by simp [w0, w1, w2, w3, ix4])
    · intro a
      match a with
      | 0 => exact ⟨Nat.zero_le _, by have := b.isLt; simpa [w0, w1, w2, w3, ix4] using this⟩
      | 1 => exact ⟨Nat.zero_le _, by have := h.isLt; simpa [w0, w1, w2, w3, ix4] using this⟩
      | 2 => exact ⟨Nat.zero_le _, by have := t.isLt; simpa [w0, w1, w2, w3, ix4] using this⟩
      | 3 => exact ⟨Nat.zero_le _, by simpa [w0, w1, w2, w3, ix4] using hk⟩
  · rw [if_neg hk, dif_neg]
    intro hin
    have := (hin 3).2
    simp [w0, w1, w2, w3, ix4] at this
    omega

/-- The weight's two forms: with the logarithm of the sigmoid and the running sum less its own term, or with the score
    less its softplus and the sum over the columns on the right. -/
theorem weight_eq (z S : EReal) : -sp (-z) + (-sp z + S - -sp z) = z - sp z + S := by
  have h0 : Ideal.log 1 = 0 := by rw [← EReal.coe_one, Ideal.log_coe]; simp
  induction z using EReal.rec with
  | bot =>
    have h1 : sp ⊤ = ⊤ := by simp [sp, Ideal.absf_def, h0]
    rw [EReal.neg_bot, h1]
    simp
  | top =>
    have h1 : sp ⊤ = ⊤ := by simp [sp, Ideal.absf_def, h0]
    rw [h1]
    simp
  | coe x =>
    obtain ⟨w, hw⟩ : ∃ w : ℝ, Ideal.log (1 + Ideal.exp (0 - FloatOps.absf (F := Ideal) (φ := .f32) (x : EReal))) = (w : EReal) := by
      refine ⟨Real.log (1 + Real.exp (0 - max x (-x))), ?_⟩
      have e : 1 + Ideal.exp (0 - FloatOps.absf (F := Ideal) (φ := .f32) (x : EReal)) = ((1 + Real.exp (0 - max x (-x)) : ℝ) : EReal) := by
        rw [Ideal.absf_def]
        norm_cast
      rw [e, Ideal.log_coe, if_neg (not_le.mpr (by positivity))]
    have h1 : sp (x : EReal) = ((max x 0 + w : ℝ) : EReal) := by
      rw [sp, hw]; norm_cast
    have h2 : sp (-(x : EReal)) = ((max (-x) 0 + w : ℝ) : EReal) := by
      rw [sp, show FloatOps.absf (F := Ideal) (φ := .f32) (-(x : EReal)) = FloatOps.absf (x : EReal) from by
        rw [Ideal.absf_def, Ideal.absf_def, neg_neg, max_comm], hw]; norm_cast
    rw [h1, h2]
    induction S using EReal.rec with
    | bot => simp
    | top =>
      simp only [← EReal.coe_neg, ← EReal.coe_sub, EReal.coe_add_top, EReal.top_sub_coe]
    | coe s =>
      norm_cast
      rcases le_total x 0 with h | h
      · rw [max_eq_right h, max_eq_left (by linarith)]; ring
      · rw [max_eq_left h, max_eq_right (by linarith)]; ring

/-- A head's column among the layer's 8192, from where its part starts. -/
def colOf (c : ℕ) (h : Fin 8) (d : Fin 128) (hc : c ≤ 7168 := by decide) : Fin 8192 := ⟨c + (h.val * 128 + d.val), by omega⟩

/-- A head's rows of queries, keys, values or gates. -/
def part (c : ℕ) (b h : Fin 8) (r : ℕ) (d : Fin 128) (hc : c ≤ 7168 := by decide) : EReal :=
  P (ix3 b ⟨r % 2064, Nat.mod_lt _ (by decide)⟩ (colOf c h d hc))

/-- The scores by row and column. -/
def ZR (b h : Fin 8) (t j : ℕ) : EReal :=
  ∑ d : Fin 128, part P 3072 b h t d * Ideal.ofBits .f32 0x3DB504F3#32 * part P 4096 b h j d + B (ix1 h)

/-- An entry of the layer's columns is an entry of one of a head's parts. -/
theorem part_at (c : ℕ) (hc : c ≤ 7168) (b h : Fin 8) (r : Fin 2064) (d : Fin 128) (k : ℕ) (hk : k < 8192)
    (e : k = c + (h.val * 128 + d.val)) : P (ix3 b r ⟨k, hk⟩) = part P c b h r.val d hc := by
  subst e
  have : (⟨r.val % 2064, Nat.mod_lt _ (by decide)⟩ : Fin 2064) = r := Fin.ext (Nat.mod_eq_of_lt r.isLt)
  rw [part, this]; rfl

/-- The reference's score is the scaled queries' product with the keys, plus the bias. -/
theorem sc_at (b h : Fin 8) (t j : Fin 2064) : SC P B (ix4 b h t j) = ZR P B b h t.val j.val := by
  pointwise [SC, QR, KR]
  rw [ZR, ← scale_sum]
  congr 2
  refine Finset.sum_congr rfl fun d _ => ?_
  rw [part_at P 3072 (by decide) b h t d _ _ (by omega), part_at P 4096 (by decide) b h j d _ _ (by omega)]

/-- The logarithm of the sigmoid at an entry is minus the softplus of minus the entry. -/
theorem logsig_at (x) (y : S8x8x2064x2064.Idx) : LOGSIG x y = -sp (-x y) := by
  show -SOFTPLUS (Host.negf x) y = _
  rw [soft_at]; rfl

/-- What a column leaves of the stick, by the scores. -/
theorem left_at (b h : Fin 8) (t j : Fin 2064) : LEFT P B (ix4 b h t j) = L (ZR P B b h) t.val j.val := by
  rw [LEFT, vis_at, logsig_at, L]
  show (if _ then -sp (- -SC P B (ix4 b h t j)) else 0) = _
  rw [neg_neg, sc_at]

/-- The reference's weight is the kernel's. -/
theorem wt_at (b h : Fin 8) (t j : Fin 2064) : WT P B (ix4 b h t j) = A (ZR P B b h) t.val j.val := by
  rw [WT, vis_at, A]
  by_cases hj : j.val < t.val
  · rw [if_pos hj, if_pos hj]
    show Ideal.exp (LOGSIG (SC P B) (ix4 b h t j) + (CUM (LEFT P B) (ix4 b h t j) - LEFT P B (ix4 b h t j))) = _
    rw [logsig_at, cum_at _ b h t j _ (left_at P B b h t), left_at, sc_at, Finset.sum_eq_sum_Ico_succ_bot j.isLt]
    change Ideal.exp (_ + (L _ _ _ + C _ _ (j.val + 1) - L _ _ _)) = _
    rw [L, if_pos hj, weight_eq]
  · rw [if_neg hj, if_neg hj]

/-- The reference's first result, at a head's entry. -/
theorem ref1_at (y : S8x2064x1024.Idx) (b h : Fin 8) (t : Fin 2064) (d : Fin 128) (e0 : (y 0).val = b.val) (e1 : (y 1).val = t.val)
    (e2 : (y 2).val = h.val * 128 + d.val) :
    REF1 P B y = O (ZR P B b h) (part P 5120 b h) t.val 0 d * gate (part P 7168 b h t.val d) := by
  have hw := wt_at P B b h t
  generalize hW : WT P B = w at hw
  have h0 : y 0 = b := Fin.ext e0
  have h1 : y 1 = t := Fin.ext e1
  have h2 : (⟨(y 2).val / 128, by have := (y 2).isLt; omega⟩ : Fin 8) = h := Fin.ext (by simp only; omega)
  pointwise [REF1, VR, hW]
  rw [gate, zero_sub, h0, h1, part_at P 7168 (by decide) b h t d _ _ (by omega), O, ← sum_group 2064 0]
  refine congrArg (· * _) (Finset.sum_congr rfl fun j _ => ?_)
  rw [part_at P 5120 (by decide) b h j d _ _ (by omega), h2, hw, mul_comm, Nat.zero_add]

end Ref

open Cert.KernelIdeal Cert.KernelIdeal.Gen Cert.KernelIdeal.Hand

variable (m : (ℓ : Loc nD τ sig) → Buf (Elt Ideal) ℓ)

/-- Which block each window holds at grid point `t`: its batch and its head. -/
theorem idx : ∀ t : Fin cfg0.N, win0_0.index t = ![0] ∧ win0_1.index t = ![t.val / 8, 0, 24 + t.val % 8]
    ∧ win0_2.index t = ![t.val / 8, 0, 32 + t.val % 8] ∧ win0_3.index t = ![t.val / 8, 0, 40 + t.val % 8]
    ∧ win0_4.index t = ![t.val / 8, 0, 56 + t.val % 8] ∧ win0_5.index t = ![t.val / 8, 0, t.val % 8]
    ∧ win0_6.index t = ![1, t.val / 8, 0, t.val % 8] ∧ win0_7.index t = ![1, t.val / 8, 0, t.val % 8]
    ∧ k0_off1 (grid0.coords t) = ![t.val % 8] ∧ t.val / 8 < 8 :=
  (by decide +kernel : ∀ t : Fin grid0.N, _)

/-- The batch of a grid point. -/
def bat (t : Fin cfg0.N) : Fin 8 := ⟨t.val / 8, (idx t).2.2.2.2.2.2.2.2.2⟩
/-- The head of a grid point. -/
def hed (t : Fin cfg0.N) : Fin 8 := ⟨t.val % 8, Nat.mod_lt _ (by decide)⟩

/-- The rows of the block of queries are the head's queries. -/
theorem row_q (c : Dev nD) (t : Fin cfg0.N) (r : ℕ) (d : Fin 128) :
    row (iblk m c 1 t) r d = part (m ((c : Thread nD τ).loc main_arg0)) 3072 (bat t) (hed t) r d := by
  unfold row part
  blk_point [iblk, V_main_arg0, idx t, bat, hed, colOf]

/-- The bias read at a grid point is its head's. -/
theorem bias_eq (c : Dev nD) (t : Fin cfg0.N) :
    biasAt (grid0.coords t) (iblk m c 0 t) = m ((c : Thread nD τ).loc main_arg1) (ix1 (hed t)) := by
  unfold biasAt
  blk_point [iblk, V_main_arg1, idx t, hed]

/-- The rows of the block of keys are the head's keys. -/
theorem row_k (c : Dev nD) (t : Fin cfg0.N) (r : ℕ) (d : Fin 128) :
    row (iblk m c 2 t) r d = part (m ((c : Thread nD τ).loc main_arg0)) 4096 (bat t) (hed t) r d := by
  unfold row part
  blk_point [iblk, V_main_arg0, idx t, bat, hed, colOf]

/-- The rows of the block of values are the head's values. -/
theorem row_v (c : Dev nD) (t : Fin cfg0.N) (r : ℕ) (d : Fin 128) :
    row (iblk m c 3 t) r d = part (m ((c : Thread nD τ).loc main_arg0)) 5120 (bat t) (hed t) r d := by
  unfold row part
  blk_point [iblk, V_main_arg0, idx t, bat, hed, colOf]

/-- The rows of the block of gates are the head's gates. -/
theorem row_z (c : Dev nD) (t : Fin cfg0.N) (r : ℕ) (d : Fin 128) :
    row (iblk m c 4 t) r d = part (m ((c : Thread nD τ).loc main_arg0)) 7168 (bat t) (hed t) r d := by
  unfold row part
  blk_point [iblk, V_main_arg0, idx t, bat, hed, colOf]

/-- The attention's array after the run is the reference's first result. -/
theorem final1 (c : Dev nD) : (dats m 0 c).arrAt 5 (cfgs 0).N
    = REF1 (m ((c : Thread nD τ).loc main_arg0)) (m ((c : Thread nD τ).loc main_arg1)) := by
  refine (dats m 0 c).arrAt_eq_of_covers 5 _ (by decide +kernel) fun t _ y => ?_
  blk_simp
  rw [after0_5, out5_spec]
  refine Eq.trans ?_ (ref1_at _ _ ((win0_5.blk t).view.emb y) (bat t) (hed t) (y 1) (y 2) ?_ ?_ ?_).symm
  · rw [att]
    have eZ : Zs (biasAt (grid0.coords t) (iblk m c 0 t)) (iblk m c 1 t) (iblk m c 2 t)
        = ZR (m ((c : Thread nD τ).loc main_arg0)) (m ((c : Thread nD τ).loc main_arg1)) (bat t) (hed t) := by
      funext i j
      simp only [Zs, ZR, row_q, row_k, bias_eq]
    have eV : row (iblk m c 3 t) = fun r d => part (m ((c : Thread nD τ).loc main_arg0)) 5120 (bat t) (hed t) r d := by
      funext i j
      exact row_v m c t i j
    rw [eZ, eV]
    exact congrArg (fun x => O _ _ _ 0 _ * gate x) (row_z m c t _ _)
  · blk_simp [idx t, bat]
  · blk_simp [idx t]
  · blk_simp [idx t, hed]

/-- The keys' slab is first a copy of its argument. -/
theorem V_main_v0_1 (c : Dev nD) : V m c main_v0_1 = m ((c : Thread nD τ).loc main_arg2) := by
  show StableHlo.after hostOps0 _ (Proc.devRef .tc main_v0_1) = _
  after_results
  rfl

/-- The values' slab is first a copy of its argument. -/
theorem V_main_v0_2 (c : Dev nD) : V m c main_v0_2 = m ((c : Thread nD τ).loc main_arg3) := by
  show StableHlo.after hostOps0 _ (Proc.devRef .tc main_v0_2) = _
  after_results
  rfl

/-- An index of a slab's first layer by its coordinates. -/
theorem shape_ext (j : S2x8x2064x1024.Idx) (h : (j 0).val < 1) : j = ix4 0 (j 1) (j 2) (j 3) := by
  funext i
  match i with
  | 0 => exact Fin.ext (by show (j 0).val = 0; omega)
  | 1 => rfl
  | 2 => rfl
  | 3 => rfl

/-- The keys' slab after the run is the reference's second result. -/
theorem final2 (c : Dev nD) : (dats m 0 c).arrAt 6 (cfgs 0).N
    = SLAB (m ((c : Thread nD τ).loc main_arg2)) (KR (m ((c : Thread nD τ).loc main_arg0))) := by
  refine (dats m 0 c).arrAt_eq_of_coversWhere_of_agree 6 _ (fun i => i 0 = 1) (by decide +kernel) (fun t _ y => ?_) (fun j hj => ?_)
  · blk_simp
    rw [after0_6]; unfold out6; frame_out
    have e0 : (((View.whole main_v0_1).slice (win0_6.rect t)).emb y 0).val = 1 := by blk_simp [idx t]
    pointwise [k0_pay47, SLAB, KR]
    rw [dif_neg (by omega)]
    blk_point [iblk, V_main_arg0, idx t]
  · blk_simp [Pipeline.Window.cell_apply] at hj
    blk_simp
    pointwise [SLAB, KR]
    have hb := (j 0).isLt
    change (j 0).val < 2 at hb
    rw [dif_pos (by omega)]
    exact (congrFun (V_main_v0_1 m c) j).trans (congrArg (m ((c : Thread nD τ).loc main_arg2)) (shape_ext j (by omega)))

/-- The values' slab after the run is the reference's third result. -/
theorem final3 (c : Dev nD) : (dats m 0 c).arrAt 7 (cfgs 0).N
    = SLAB (m ((c : Thread nD τ).loc main_arg3)) (VR (m ((c : Thread nD τ).loc main_arg0))) := by
  refine (dats m 0 c).arrAt_eq_of_coversWhere_of_agree 7 _ (fun i => i 0 = 1) (by decide +kernel) (fun t _ y => ?_) (fun j hj => ?_)
  · blk_simp
    rw [after0_7]; unfold out7; frame_out
    have e0 : (((View.whole main_v0_2).slice (win0_7.rect t)).emb y 0).val = 1 := by blk_simp [idx t]
    pointwise [k0_pay48, SLAB, VR]
    rw [dif_neg (by omega)]
    blk_point [iblk, V_main_arg0, idx t]
  · blk_simp [Pipeline.Window.cell_apply] at hj
    blk_simp
    pointwise [SLAB, VR]
    have hb := (j 0).isLt
    change (j 0).val < 2 at hb
    rw [dif_pos (by omega)]
    exact (congrFun (V_main_v0_2 m c) j).trans (congrArg (m ((c : Thread nD τ).loc main_arg3)) (shape_ext j (by omega)))

end Cert.Proof.StickBreaking

end
-- ==== Proof.Inproj.lean ====
/-
  The input projection of one odd layer: `x` (16512 rows of 1024) times one layer's weight matrix (1024 by 4096), on a
  grid of 8 row blocks by 8 column blocks. Each point computes one 2064 by 512 block of the result in one product, so
  the result array is the one whole product of the reference. The host then takes the last three rows of each sequence's
  first 2048 columns and stacks them behind the first odd layer's.
-/
module

public import proofs.«01_k».proof.Proof.Gen.Kernel2Ideal.Frame
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Inproj

section Ref
open Cert.Reference2Ideal Cert.Reference2Ideal.Gen

/-- The reference's result: the rows times layer 1's matrix. -/
def REF (X : FVec Ideal S16512x1024 .bf16) (W : FVec Ideal S2x1024x4096 .f32) : FVec Ideal S16512x4096 .f32 :=
  Host.dotGeneral dot_S16512x1024_S1024x4096_S16512x4096_1_0_0_1_n_n none (extf .f32 X bitsLt_bf16_f32)
    (shapeCast _ (extractStridedSlice S1x1024x4096 ![1, 0, 0] W slices_S2x1024x4096_S1x1024x4096_1_0_0) shapeCasts_S1x1024x4096_S1024x4096)

/-- The two odd layers' convolution states stacked: `C` of the first one, `D` of the second one. -/
def STACK (C D : FVec Ideal S8x3x2048 .f32) : FVec Ideal S2x8x3x2048 .f32 :=
  concatenate S2x8x3x2048 0 [⟨S1x8x3x2048, (broadcastInDim S1x8x3x2048 ![1, 2, 3] bcast_S8x3x2048_S1x8x3x2048_1_2_3 C)⟩,
    ⟨S1x8x3x2048, (broadcastInDim S1x8x3x2048 ![1, 2, 3] bcast_S8x3x2048_S1x8x3x2048_1_2_3 D)⟩] concatenates_S1x8x3x2048_S1x8x3x2048_S2x8x3x2048_d0

/-- The last three rows of each sequence padded by three zero rows in front, in the first 2048 columns of a projection. -/
def LAST (A : FVec Ideal S16512x4096 .f32) : FVec Ideal S8x3x2048 .f32 :=
  extractStridedSlice S8x3x2048 ![0, 2064, 0] (concatenate S8x2067x2048 1
    [⟨S8x3x2048, (broadcastInDim S8x3x2048 ![] bcast_S_S8x3x2048 (constant (F := Ideal) S_ .f32 0x00000000#32))⟩,
     ⟨S8x2064x2048, (extractStridedSlice S8x2064x2048 ![0, 0, 0] (shapeCast _ A shapeCasts_S16512x4096_S8x2064x4096) slices_S8x2064x4096_S8x2064x2048_0_0_0)⟩]
    concatenates_S8x3x2048_S8x2064x2048_S8x2067x2048_d1) slices_S8x2067x2048_S8x3x2048_0_2064_0

/-- The last three rows of the padded sequence are the last three rows of the sequence. -/
theorem last_eq (A : FVec Ideal S16512x4096 .f32) : LAST A = extractStridedSlice S8x3x2048 ![0, 2061, 0]
    (shapeCast _ A shapeCasts_S16512x4096_S8x2064x4096) Cert.Kernel2Ideal.Gen.slices_S8x2064x4096_S8x3x2048_0_2061_0 := by
  funext y
  pointwise [LAST]
  rw [dif_neg (by omega)]
  exact congrArg A (by congr 2; omega)

end Ref

open Cert.Kernel2Ideal Cert.Kernel2Ideal.Gen

variable (m : (ℓ : Loc nD τ sig) → Buf (Elt Ideal) ℓ)

/-- Which block each window holds at grid point `t`. -/
theorem idx : ∀ t : Fin cfg0.N, win0_0.index t = ![t.val / 8, 0] ∧ win0_1.index t = ![1, 0, t.val % 8]
    ∧ win0_2.index t = ![t.val / 8, t.val % 8] ∧ t.val / 8 < 8 :=
  (by decide +kernel : ∀ t : Fin grid0.N, _)

/-- What point `t` stores at block index `y` is the reference's product at the array index of `y`. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The stacked convolution states after the run: the first layer's as given, the second layer's off the reference's product. -/
theorem finalStack (c : Dev nD) : Pipeline.afterTail₀ cfgs (dats m) 0 (V0 m) [hostOps1] c main_v5
    = STACK (m ((c : Thread nD τ).loc main_arg2))
        (LAST (REF (m ((c : Thread nD τ).loc main_arg0)) (m ((c : Thread nD τ).loc main_arg1)))) := by
  rw [last_eq, ← final m c]
  unfold Pipeline.afterTail₀
  show StableHlo.after hostOps1 _ _ = _
  after_results
  rw [show Pipeline.withArrays (cfgs 0).spec c (V0 m c) (fun w => (dats m 0 c).arrAt w (cfgs 0).N) (Proc.devRef .tc main_v0)
        = (dats m 0 c).arrAt 2 (cfgs 0).N from Pipeline.withArrays_arr spec0 launch0.win.arr_inj c _ _ 2,
    show Pipeline.withArrays (cfgs 0).spec c (V0 m c) (fun w => (dats m 0 c).arrAt w (cfgs 0).N) (Proc.devRef .tc main_arg2)
        = m ((c : Thread nD τ).loc main_arg2) from
      (Pipeline.withArrays_of_ne spec0 c _ _ main_arg2 (by exact (by decide : ∀ w, Pipeline.arrRef spec0 w ≠ main_arg2))).trans
        (V_main_arg2 m c)]
  rfl

end Cert.Proof.Inproj

end
-- ==== Proof.InprojSample.lean ====
/-
  The input projection of an odd layer on the samples: `x` (32 rows of 1024) times layer 1's weight matrix (1024 by 4096),
  in column blocks of 512, one product each. The host then shifts each sample's last three convolution inputs by one,
  the new one being the first 2048 columns of the projection, and stacks them behind the first odd layer's.
-/
module

public import proofs.«01_k».proof.Proof.Gen.Kernel8Ideal.Frame
public import proofs.«01_k».proof.Proof.Gen.Reference8Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InprojSample

section Ref
open Cert.Reference8Ideal Cert.Reference8Ideal.Gen

/-- The reference's result: the rows times layer 1's matrix. -/
def REF (X : FVec Ideal S32x1024 .bf16) (W : FVec Ideal S2x1024x4096 .f32) : FVec Ideal S32x4096 .f32 :=
  Host.dotGeneral dot_S32x1024_S1024x4096_S32x4096_1_0_0_1_n_n none (extf .f32 X bitsLt_bf16_f32)
    (shapeCast _ (extractStridedSlice S1x1024x4096 ![1, 0, 0] W slices_S2x1024x4096_S1x1024x4096_1_0_0) shapeCasts_S1x1024x4096_S1024x4096)

/-- The two odd layers' convolution states stacked: `C` of the first one, `D` of the second one. -/
def STACK (C D : FVec Ideal S32x3x2048 .f32) : FVec Ideal S2x32x3x2048 .f32 :=
  concatenate S2x32x3x2048 0 [⟨S1x32x3x2048, (broadcastInDim S1x32x3x2048 ![1, 2, 3] bcast_S32x3x2048_S1x32x3x2048_1_2_3 C)⟩,
    ⟨S1x32x3x2048, (broadcastInDim S1x32x3x2048 ![1, 2, 3] bcast_S32x3x2048_S1x32x3x2048_1_2_3 D)⟩] concatenates_S1x32x3x2048_S1x32x3x2048_S2x32x3x2048_d0

/-- The last three of the four rows got by putting the projection's first 2048 columns behind the three rows `B`. -/
def LAST (B : FVec Ideal S32x3x2048 .f32) (A : FVec Ideal S32x4096 .f32) : FVec Ideal S32x3x2048 .f32 :=
  extractStridedSlice S32x3x2048 ![0, 1, 0] (concatenate S32x4x2048 1 [⟨S32x3x2048, B⟩,
    ⟨S32x1x2048, (broadcastInDim S32x1x2048 ![0, 2] bcast_S32x2048_S32x1x2048_0_2 (extractStridedSlice S32x2048 ![0, 0] A slices_S32x4096_S32x2048_0_0))⟩]
    concatenates_S32x3x2048_S32x1x2048_S32x4x2048_d1) slices_S32x4x2048_S32x3x2048_0_1_0

/-- They are the last two rows of `B` and the projection's first 2048 columns. -/
theorem last_eq (B : FVec Ideal S32x3x2048 .f32) (A : FVec Ideal S32x4096 .f32) : LAST B A = concatenate S32x3x2048 1
    [⟨Cert.Kernel8Ideal.S32x2x2048, extractStridedSlice Cert.Kernel8Ideal.S32x2x2048 ![0, 1, 0] B Cert.Kernel8Ideal.Gen.slices_S32x3x2048_S32x2x2048_0_1_0⟩,
     ⟨S32x1x2048, (broadcastInDim S32x1x2048 ![0, 2] bcast_S32x2048_S32x1x2048_0_2 (extractStridedSlice S32x2048 ![0, 0] A slices_S32x4096_S32x2048_0_0))⟩]
    Cert.Kernel8Ideal.Gen.concatenates_S32x2x2048_S32x1x2048_S32x3x2048_d1 := by
  funext y
  pointwise [LAST]
  by_cases h : (y 1).val < 2
  · rw [dif_pos (by omega), dif_pos h]
  · rw [dif_neg (by omega), dif_neg h]

end Ref

open Cert.Kernel8Ideal Cert.Kernel8Ideal.Gen

variable (m : (ℓ : Loc nD τ sig) → Buf (Elt Ideal) ℓ)

/-- Which block each window holds at grid point `t`. -/
theorem idx : ∀ t : Fin cfg0.N, win0_0.index t = ![t.val / 8, 0] ∧ win0_1.index t = ![1, 0, t.val % 8]
    ∧ win0_2.index t = ![t.val / 8, t.val % 8] ∧ t.val / 8 < 8 :=
  (by decide +kernel : ∀ t : Fin grid0.N, _)

/-- What point `t` stores at block index `y` is the reference's product at the array index of `y`. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The stacked convolution states after the run: the first layer's as given, the second layer's the shifted rows. -/
theorem finalStack (c : Dev nD) : Pipeline.afterTail₀ cfgs (dats m) 0 (V0 m) [hostOps1] c main_v7
    = STACK (m ((c : Thread nD τ).loc main_arg3)) (LAST (m ((c : Thread nD τ).loc main_arg2))
        (REF (m ((c : Thread nD τ).loc main_arg0)) (m ((c : Thread nD τ).loc main_arg1)))) := by
  rw [last_eq, ← final m c]
  unfold Pipeline.afterTail₀
  show StableHlo.after hostOps1 _ _ = _
  after_results
  rw [show Pipeline.withArrays (cfgs 0).spec c (V0 m c) (fun w => (dats m 0 c).arrAt w (cfgs 0).N) (Proc.devRef .tc main_v0)
        = (dats m 0 c).arrAt 2 (cfgs 0).N from Pipeline.withArrays_arr spec0 launch0.win.arr_inj c _ _ 2,
    show Pipeline.withArrays (cfgs 0).spec c (V0 m c) (fun w => (dats m 0 c).arrAt w (cfgs 0).N) (Proc.devRef .tc main_arg2)
        = m ((c : Thread nD τ).loc main_arg2) from
      (Pipeline.withArrays_of_ne spec0 c _ _ main_arg2 (by exact (by decide : ∀ w, Pipeline.arrRef spec0 w ≠ main_arg2))).trans
        (V_main_arg2 m c),
    show Pipeline.withArrays (cfgs 0).spec c (V0 m c) (fun w => (dats m 0 c).arrAt w (cfgs 0).N) (Proc.devRef .tc main_arg3)
        = m ((c : Thread nD τ).loc main_arg3) from
      (Pipeline.withArrays_of_ne spec0 c _ _ main_arg3 (by exact (by decide : ∀ w, Pipeline.arrRef spec0 w ≠ main_arg3))).trans
        (V_main_arg3 m c)]
  rfl

end Cert.Proof.InprojSample

end
-- ==== Proof.LruSample.lean ====
/-
  One step of an odd layer's gated recurrence on the samples: the convolution of the last four inputs of each channel, two
  gates from a block-diagonal product of it, and the new state `h = a * h0 + sqrt (1 - a ^ 2) * (i * x)`. The grid has one
  point for each of the 16 channel blocks of 128.
-/
module

public import proofs.«01_k».proof.Proof.Gen.Kernel9Ideal.Frame
public import proofs.«01_k».proof.Proof.Gen.Reference9Ideal.Run
public import Idealize.ShloMosaic.Lib.Pipeline.ValueKit

@[expose] public section

set_option maxHeartbeats 1000000
set_option maxRecDepth 16384

noncomputable section

open Idealize.ShloMosaic Idealize.ShloMosaic.TcCoe Idealize.SL.Sem
open Idealize.ShloMosaic.Pipeline (Dat)

namespace Cert.Proof.LruSample

section Ref
open Cert.Reference9Ideal Cert.Reference9Ideal.Gen

/-- The last four inputs of the convolution: the three rows of `B`, then the projection's first 2048 columns. -/
def CAT (P : FVec Ideal S32x4096 .f32) (B : FVec Ideal S32x3x2048 .f32) : FVec Ideal S32x4x2048 .f32 :=
  concatenate S32x4x2048 1 [⟨S32x3x2048, B⟩, ⟨S32x1x2048, (broadcastInDim S32x1x2048 ![0, 2] bcast_S32x2048_S32x1x2048_0_2 (extractStridedSlice S32x2048 ![0, 0] P slices_S32x4096_S32x2048_0_0))⟩] concatenates_S32x3x2048_S32x1x2048_S32x4x2048_d1

/-- The convolution: the four inputs weighted by the rows of `cw` and added up, and the bias `cb`. -/
def XC (P : FVec Ideal S32x4096 .f32) (B : FVec Ideal S32x3x2048 .f32) (cw : FVec Ideal S4x2048 .f32) (cb : FVec Ideal S2048 .f32) :
    FVec Ideal S32x2048 .f32 :=
  shapeCast _ (addf (addf (addf (addf (addf (broadcastInDim S32x1x2048 ![] bcast_S_S32x1x2048 (constant (F := Ideal) S_ .f32 0x00000000#32)) (mulf (extractStridedSlice S32x1x2048 ![0, 0, 0] (CAT P B) slices_S32x4x2048_S32x1x2048_0_0_0) (broadcastInDim S32x1x2048 ![0, 1, 2] bcast_S1x1x2048_S32x1x2048_0_1_2 (broadcastInDim S1x1x2048 ![2] bcast_S2048_S1x1x2048_2 (shapeCast _ (extractStridedSlice S1x2048 ![0, 0] cw slices_S4x2048_S1x2048_0_0) shapeCasts_S1x2048_S2048))))) (mulf (extractStridedSlice S32x1x2048 ![0, 1, 0] (CAT P B) slices_S32x4x2048_S32x1x2048_0_1_0) (broadcastInDim S32x1x2048 ![0, 1, 2] bcast_S1x1x2048_S32x1x2048_0_1_2 (broadcastInDim S1x1x2048 ![2] bcast_S2048_S1x1x2048_2 (shapeCast _ (extractStridedSlice S1x2048 ![1, 0] cw slices_S4x2048_S1x2048_1_0) shapeCasts_S1x2048_S2048))))) (mulf (extractStridedSlice S32x1x2048 ![0, 2, 0] (CAT P B) slices_S32x4x2048_S32x1x2048_0_2_0) (broadcastInDim S32x1x2048 ![0, 1, 2] bcast_S1x1x2048_S32x1x2048_0_1_2 (broadcastInDim S1x1x2048 ![2] bcast_S2048_S1x1x2048_2 (shapeCast _ (extractStridedSlice S1x2048 ![2, 0] cw slices_S4x2048_S1x2048_2_0) shapeCasts_S1x2048_S2048))))) (mulf (extractStridedSlice S32x1x2048 ![0, 3, 0] (CAT P B) slices_S32x4x2048_S32x1x2048_0_3_0) (broadcastInDim S32x1x2048 ![0, 1, 2] bcast_S1x1x2048_S32x1x2048_0_1_2 (broadcastInDim S1x1x2048 ![2] bcast_S2048_S1x1x2048_2 (shapeCast _ (extractStridedSlice S1x2048 ![3, 0] cw slices_S4x2048_S1x2048_3_0) shapeCasts_S1x2048_S2048))))) (broadcastInDim S32x1x2048 ![0, 1, 2] bcast_S1x1x2048_S32x1x2048_0_1_2 (broadcastInDim S1x1x2048 ![2] bcast_S2048_S1x1x2048_2 cb))) shapeCasts_S32x1x2048_S32x2048

/-- The block-diagonal product: each block of 128 channels times its own matrix. -/
def LIN (W : FVec Ideal S16x128x128 .f32) (X : FVec Ideal S32x2048 .f32) : FVec Ideal S32x2048 .f32 :=
  shapeCast _ (transpose S32x16x128 [2, 0, 1] (Host.dotGeneral dot_S16x128x128_S32x16x128_S16x128x32_1_2_2_0_0_1 none W (shapeCast _ X shapeCasts_S32x2048_S32x16x128)) transposes_S16x128x32_S32x16x128_2_0_1) shapeCasts_S32x16x128_S32x2048

/-- A gate: the logistic function of the block-diagonal product and a bias. -/
def GATE (W : FVec Ideal S16x128x128 .f32) (b : FVec Ideal S2048 .f32) (X : FVec Ideal S32x2048 .f32) : FVec Ideal S32x2048 .f32 :=
  Host.divf (broadcastInDim S32x2048 ![] bcast_S_S32x2048 (constant (F := Ideal) S_ .f32 0x3F800000#32)) (addf (broadcastInDim S32x2048 ![] bcast_S_S32x2048 (constant (F := Ideal) S_ .f32 0x3F800000#32)) (Host.exp (Host.negf (addf (LIN W X) (broadcastInDim S32x2048 ![0, 1] bcast_S1x2048_S32x2048_0_1 (broadcastInDim S1x2048 ![1] bcast_S2048_S1x2048_1 b))))))

/-- The logarithm of the logistic function. -/
def LOGSIG (lam : FVec Ideal S2048 .f32) : FVec Ideal S2048 .f32 :=
  Host.negf (select (cmpf .une (subf (Host.negf lam) (broadcastInDim S2048 ![] bcast_S_S2048 (constant (F := Ideal) S_ .f32 0x00000000#32))) (subf (Host.negf lam) (broadcastInDim S2048 ![] bcast_S_S2048 (constant (F := Ideal) S_ .f32 0x00000000#32)))) (addf (Host.negf lam) (broadcastInDim S2048 ![] bcast_S_S2048 (constant (F := Ideal) S_ .f32 0x00000000#32))) (addf (maximumf (Host.negf lam) (broadcastInDim S2048 ![] bcast_S_S2048 (constant (F := Ideal) S_ .f32 0x00000000#32))) (Host.log1p (Host.exp (Host.negf (Host.absf (subf (Host.negf lam) (broadcastInDim S2048 ![] bcast_S_S2048 (constant (F := Ideal) S_ .f32 0x00000000#32)))))))))

/-- The logarithm of the decay. -/
def LOGA (R : FVec Ideal S32x2048 .f32) (lam : FVec Ideal S2048 .f32) : FVec Ideal S32x2048 .f32 :=
  mulf (mulf (broadcastInDim S32x2048 ![] bcast_S_S32x2048 (constant (F := Ideal) S_ .f32 0x41000000#32)) R) (broadcastInDim S32x2048 ![0, 1] bcast_S1x2048_S32x2048_0_1 (broadcastInDim S1x2048 ![1] bcast_S2048_S1x2048_1 (LOGSIG lam)))

/-- The new state. -/
def NEXT (R I X : FVec Ideal S32x2048 .f32) (lam : FVec Ideal S2048 .f32) (h0 : FVec Ideal S32x2048 .f32) : FVec Ideal S32x2048 .f32 :=
  addf (mulf (Host.sqrt (Host.negf (Host.expm1 (mulf (broadcastInDim S32x2048 ![] bcast_S_S32x2048 (constant (F := Ideal) S_ .f32 0x40000000#32)) (LOGA R lam)))))
    (mulf I X)) (mulf (Host.exp (LOGA R lam)) h0)

/-- The new state from the call's arguments. -/
def H (P : FVec Ideal S32x4096 .f32) (B : FVec Ideal S32x3x2048 .f32) (cw : FVec Ideal S4x2048 .f32) (cb : FVec Ideal S2048 .f32)
    (wa wx : FVec Ideal S16x128x128 .f32) (ba bx lam : FVec Ideal S2048 .f32) (h0 : FVec Ideal S32x2048 .f32) : FVec Ideal S32x2048 .f32 :=
  NEXT (GATE wa ba (XC P B cw cb)) (GATE wx bx (XC P B cw cb)) (XC P B cw cb) lam h0

/-- The output: the new state times the gate columns' `x * logistic x`. -/
def OUT (P : FVec Ideal S32x4096 .f32) (h : FVec Ideal S32x2048 .f32) : FVec Ideal S32x2048 .bf16 :=
  truncf .bf16 (mulf h (mulf (extractStridedSlice S32x2048 ![0, 2048] P slices_S32x4096_S32x2048_0_2048)
    (Host.divf (broadcastInDim S32x2048 ![] bcast_S_S32x2048 (constant (F := Ideal) S_ .f32 0x3F800000#32)) (addf (broadcastInDim S32x2048 ![] bcast_S_S32x2048 (constant (F := Ideal) S_ .f32 0x3F800000#32)) (Host.exp (Host.negf (extractStridedSlice S32x2048 ![0, 2048] P slices_S32x4096_S32x2048_0_2048))))))) bitsLt_bf16_f32

/-- The two odd layers' states stacked: `C` of the first one, `D` of the second one. -/
def STACK (C D : FVec Ideal S32x2048 .f32) : FVec Ideal S2x32x2048 .f32 :=
  concatenate S2x32x2048 0 [⟨S1x32x2048, (broadcastInDim S1x32x2048 ![1, 2] bcast_S32x2048_S1x32x2048_1_2 C)⟩,
    ⟨S1x32x2048, (broadcastInDim S1x32x2048 ![1, 2] bcast_S32x2048_S1x32x2048_1_2 D)⟩] concatenates_S1x32x2048_S1x32x2048_S2x32x2048_d0

variable (m : (ℓ : Loc nD τ sig) → Buf (Elt Ideal) ℓ)

/-- The new state from the reference's arguments as launched. -/
def Hm (c : Dev nD) : FVec Ideal S32x2048 .f32 := H (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9))

/-- The reference's first result is the output. -/
theorem res0 (c : Dev nD) : Value.res_main_v80 m c = OUT (m ((c.tc : Thread nD τ).loc main_arg0)) (Hm m c) := rfl

/-- The reference's second result is the stack of states. -/
theorem res1 (c : Dev nD) : Value.res_main_v83 m c = STACK (m ((c.tc : Thread nD τ).loc main_arg10)) (Hm m c) := rfl

end Ref

open Cert.Kernel9Ideal Cert.Kernel9Ideal.Gen

variable (m : (ℓ : Loc nD τ sig) → Buf (Elt Ideal) ℓ)

/-- Which block each window holds at grid point `t`. -/
theorem idx : ∀ t : Fin cfg0.N, win0_0.index t = ![0, t.val] ∧ win0_1.index t = ![0, 16 + t.val] ∧ win0_2.index t = ![0, 0, t.val]
    ∧ win0_3.index t = ![0, t.val] ∧ win0_4.index t = ![0, t.val] ∧ win0_5.index t = ![t.val, 0, 0] ∧ win0_6.index t = ![0, t.val]
    ∧ win0_7.index t = ![0, t.val] ∧ win0_8.index t = ![0, t.val] ∧ win0_9.index t = ![0, t.val] ∧ win0_10.index t = ![0, t.val]
    ∧ win0_11.index t = ![0, t.val] ∧ t.val < 16 :=
  (by decide +kernel : ∀ t : Fin grid0.N, _)

/-- The two gates' matrices side by side. -/
def WAX (wa wx : FVec Ideal S16x128x128 .f32) : FVec Ideal S16x128x256 .bf16 :=
  truncf .bf16 (concatenate S16x128x256 2 [⟨S16x128x128, wa⟩, ⟨S16x128x128, wx⟩] concatenates_S16x128x128_S16x128x128_S16x128x256_d2) bitsLt_bf16_f32

/-- The host's arrays before the region: the two gates' matrices side by side, the convolution's state transposed, and the
    vectors as one row each. -/
theorem V_main_v1 (c : Dev nD) : V m c main_v1 = WAX (m ((c : Thread nD τ).loc main_arg4)) (m ((c : Thread nD τ).loc main_arg5)) := by
  show StableHlo.after hostOps0 _ (Proc.devRef .tc main_v1) = _
  after_results; rfl
theorem V_main_v2 (c : Dev nD) : V m c main_v2 = transpose S3x32x2048 [1, 0, 2] (m ((c : Thread nD τ).loc main_arg1)) transposes_S32x3x2048_S3x32x2048_1_0_2 := by
  show StableHlo.after hostOps0 _ (Proc.devRef .tc main_v2) = _
  after_results
theorem V_main_v3 (c : Dev nD) : V m c main_v3 = shapeCast S1x2048 (m ((c : Thread nD τ).loc main_arg3)) shapeCasts_S2048_S1x2048 := by
  show StableHlo.after hostOps0 _ (Proc.devRef .tc main_v3) = _
  after_results; rfl
theorem V_main_v4 (c : Dev nD) : V m c main_v4 = shapeCast S1x2048 (m ((c : Thread nD τ).loc main_arg6)) shapeCasts_S2048_S1x2048 := by
  show StableHlo.after hostOps0 _ (Proc.devRef .tc main_v4) = _
  after_results; rfl
theorem V_main_v5 (c : Dev nD) : V m c main_v5 = shapeCast S1x2048 (m ((c : Thread nD τ).loc main_arg7)) shapeCasts_S2048_S1x2048 := by
  show StableHlo.after hostOps0 _ (Proc.devRef .tc main_v5) = _
  after_results; rfl
theorem V_main_v6 (c : Dev nD) : V m c main_v6 = shapeCast S1x2048 (m ((c : Thread nD τ).loc main_arg8)) shapeCasts_S2048_S1x2048 := by
  show StableHlo.after hostOps0 _ (Proc.devRef .tc main_v6) = _
  after_results; rfl

/-- The convolution of the call's arguments. -/
def XM (c : Dev nD) : FVec Ideal S32x2048 .f32 := XC (m ((c : Thread nD τ).loc main_arg0)) (m ((c : Thread nD τ).loc main_arg1))
  (m ((c : Thread nD τ).loc main_arg2)) (m ((c : Thread nD τ).loc main_arg3))

/-- The order of the convolution's five summands does not matter. -/
theorem reorder (a b c d e : EReal) : d + e + a + b + c = a + b + c + d + e := by
  abel

/-- What point `t` computes for the convolution is the reference's, at the array index of `y`. -/
theorem xc_point (c : Dev nD) (t : Fin cfg0.N) (y : S32x128.Idx) :
    k0_pay3 (View.ld (iblk m c 0 t) r0_0) (View.ld (iblk m c 3 t) r0_1) (View.ld (iblk m c 4 t) r0_2) (View.ld (iblk m c 2 t) r0_3)
      (View.ld (iblk m c 3 t) r0_4) (View.ld (iblk m c 2 t) r0_5) (View.ld (iblk m c 3 t) r0_6) (View.ld (iblk m c 2 t) r0_7)
      (View.ld (iblk m c 3 t) r0_8) y = XM m c (((cfg0.win 11).blk t).view.emb y) := by
  pointwise [k0_pay3, XM, XC, CAT]
  refine Eq.trans ?_ (reorder _ _ _ _ _)
  blk_point [iblk, V_main_arg0, V_main_arg2, idx t]
  · rw [V_main_v3]; pointwise; blk_point [idx t]
  all_goals rw [V_main_v2]; pointwise; blk_point [idx t]

end Cert.Proof.LruSample

end
-- ==== Proof.LruSampleValue.lean ====
/-
  The two gates, the new state and the output of one step of the gated recurrence, read at an index, and the run's results.
-/
module

public import proofs.«01_k».proof.Proof.LruSample

@[expose] public section

set_option maxHeartbeats 400000
set_option maxRecDepth 16384

noncomputable section

open Idealize.ShloMosaic Idealize.ShloMosaic.TcCoe Idealize.SL.Sem
open Idealize.ShloMosaic.Pipeline (Dat)

namespace Cert.Proof.LruSample

section Scalars

/-- The logistic function. -/
def sg (x : EReal) : EReal := Ideal.div 1 (1 + Ideal.exp (0 - x))

/-- The softplus of minus `v`. -/
def spn (v : EReal) : EReal := max (0 - v) 0 + Ideal.log (1 + Ideal.exp (0 - FloatOps.absf (F := Ideal) (φ := .f32) (0 - v)))

/-- The logarithm of the decay, from the gate's argument and the channel's parameter. -/
def la (u v : EReal) : EReal := 8 * sg u * (0 - spn v)

/-- The words of 8 and 2. -/
theorem ofBits_eight : Ideal.ofBits .f32 0x41000000#32 = 8 := by
  rw [show (8 : EReal) = ((8 : ℝ) : EReal) by norm_cast]
  simp [Ideal.ofBits, Ideal.ieee, -EReal.coe_mul]; norm_num
theorem ofBits_two : Ideal.ofBits .f32 0x40000000#32 = 2 := by
  rw [show (2 : EReal) = ((2 : ℝ) : EReal) by norm_cast]
  simp [Ideal.ofBits, Ideal.ieee, -EReal.coe_mul]; norm_num

/-- The root as the kernel writes it. -/
def root (x : EReal) : EReal := if 0 < x then x * Ideal.rsqrt x else 0

/-- The new state at an entry, from the two gates' arguments, the channel's parameter, the convolution and the old state. -/
def nxt (u w v x h : EReal) : EReal :=
  Ideal.exp (la u v) * h + root (1 - Ideal.exp (la u v) * Ideal.exp (la u v)) * (sg w * x)

/-- The exponential is not negative. -/
theorem exp_nonneg (x : EReal) : 0 ≤ Ideal.exp x := by
  induction x using EReal.rec with
  | bot => exact le_refl _
  | top => exact le_top
  | coe r => exact EReal.coe_nonneg.mpr (Real.exp_pos r).le

/-- The logistic function is not negative. -/
theorem sg_nonneg (x : EReal) : 0 ≤ sg x := by
  have h : 0 < 1 + Ideal.exp (0 - x) := lt_of_lt_of_le zero_lt_one (le_add_of_nonneg_right (exp_nonneg _))
  rw [sg, Ideal.div, if_neg h.ne', one_mul]
  exact EReal.inv_nonneg_of_nonneg h.le

/-- The logarithm of one plus an exponential is not negative. -/
theorem log_nonneg (x : EReal) : 0 ≤ Ideal.log (1 + Ideal.exp x) := by
  induction x using EReal.rec with
  | bot =>
    have h0 : Ideal.log 1 = 0 := by rw [← EReal.coe_one, Ideal.log_coe]; simp
    have h1 : Ideal.exp ⊥ = 0 := rfl
    rw [h1, add_zero, h0]
  | top =>
    have h1 : (1 : EReal) + Ideal.exp ⊤ = ⊤ := rfl
    rw [h1]; exact le_top
  | coe r =>
    have h1 : (1 : EReal) + Ideal.exp (r : EReal) = ((1 + Real.exp r : ℝ) : EReal) := rfl
    have h2 := Real.exp_pos r
    rw [h1, Ideal.log_coe, if_neg (by linarith)]
    exact EReal.coe_nonneg.mpr (Real.log_nonneg (by linarith))

/-- The softplus is not negative. -/
theorem spn_nonneg (v : EReal) : 0 ≤ spn v := add_nonneg (le_max_right _ _) (log_nonneg _)

/-- The logarithm of the decay is not positive. -/
theorem la_neg (u v : EReal) : ∃ p : EReal, 0 ≤ p ∧ la u v = -p := by
  refine ⟨8 * sg u * spn v, mul_nonneg (mul_nonneg (by norm_num) (sg_nonneg u)) (spn_nonneg v), ?_⟩
  rw [la, zero_sub, mul_neg]

/-- The kernel's root of one minus the decay's square is the reference's root, from the logarithm `-p` of the decay. -/
theorem root_eq (p : EReal) (hp : 0 ≤ p) :
    root (1 - Ideal.exp (-p) * Ideal.exp (-p)) = Ideal.sqrt (-(Ideal.exp (2 * -p) - 1)) := by
  induction p using EReal.rec with
  | bot => exact absurd hp (by simp)
  | top =>
    have h1 : Ideal.exp ⊥ = 0 := rfl
    have h2 : (2 : EReal) * ⊥ = ⊥ := EReal.mul_bot_of_pos (by norm_num)
    have h3 : Ideal.rsqrt 1 = 1 := by
      rw [← EReal.coe_one, Ideal.rsqrt_coe]; norm_num
    have h4 : Ideal.sqrt 1 = 1 := by
      rw [← EReal.coe_one, Ideal.sqrt_coe]; norm_num
    rw [EReal.neg_top, h1, h2, h1, zero_mul, sub_zero, zero_sub, neg_neg, root, if_pos zero_lt_one, one_mul, h3, h4]
  | coe q =>
    have hq : 0 ≤ q := EReal.coe_nonneg.mp hp
    have e1 : (1 : EReal) - Ideal.exp (-(q : EReal)) * Ideal.exp (-(q : EReal)) = ((1 - Real.exp (-q) * Real.exp (-q) : ℝ) : EReal) := rfl
    have e2 : -(Ideal.exp (2 * -(q : EReal)) - 1) = ((-(Real.exp (2 * -q) - 1) : ℝ) : EReal) := rfl
    have e3 : Real.exp (2 * -q) = Real.exp (-q) * Real.exp (-q) := by rw [two_mul, Real.exp_add]
    have e4 : Real.exp (-q) ≤ 1 := Real.exp_le_one_iff.mpr (by linarith)
    have e5 := Real.exp_pos (-q)
    have e6 : 0 ≤ 1 - Real.exp (-q) * Real.exp (-q) := by nlinarith
    rw [e1, e2, e3, show -(Real.exp (-q) * Real.exp (-q) - 1) = 1 - Real.exp (-q) * Real.exp (-q) from by ring]
    generalize 1 - Real.exp (-q) * Real.exp (-q) = o at e6
    rw [Ideal.sqrt_coe, if_neg (not_lt.mpr e6), root]
    by_cases h : 0 < o
    · rw [if_pos (EReal.coe_pos.mpr h), Ideal.rsqrt_coe, if_neg (not_lt.mpr e6), if_neg h.ne', ← EReal.coe_mul, ← div_eq_mul_inv,
        Real.div_sqrt]
    · have h0 : o = 0 := le_antisymm (not_lt.mp h) e6
      rw [h0]; simp

end Scalars

section Ref
open Cert.Reference9Ideal Cert.Reference9Ideal.Gen

/-- Column `j` of channel block `t`. -/
def col (t : Fin 16) (j : Fin 128) : Fin 2048 := ⟨t.val * 128 + j.val, by omega⟩

/-- The block-diagonal product in channel block `t`. -/
theorem lin_at (W : FVec Ideal S16x128x128 .f32) (X : FVec Ideal S32x2048 .f32) (b : Fin 32) (t : Fin 16) (j : Fin 128) :
    LIN W X (ix2 b (col t j)) = ∑ k : Fin 128, W (ix3 t k j) * X (ix2 b (col t k)) := by
  have h1 : (t.val * 128 + j.val) / 128 = t.val := by omega
  have h2 : (t.val * 128 + j.val) % 128 = j.val := by omega
  pointwise [LIN, col, h1, h2]

/-- A gate at an entry. -/
theorem gate_at (W : FVec Ideal S16x128x128 .f32) (g : FVec Ideal S2048 .f32) (X : FVec Ideal S32x2048 .f32) (b : Fin 32) (j : Fin 2048) :
    GATE W g X (ix2 b j) = sg (LIN W X (ix2 b j) + g (ix1 j)) := by
  generalize hL : LIN W X = L
  pointwise [GATE, hL]
  rw [sg, zero_sub]

/-- The logarithm of the logistic function at an entry. -/
theorem logsig_at (lam : FVec Ideal S2048 .f32) (j : Fin 2048) : LOGSIG lam (ix1 j) = 0 - spn (lam (ix1 j)) := by
  pointwise [LOGSIG]
  rw [if_neg (by simp), zero_sub, spn, zero_sub, zero_sub]; rfl

/-- The new state at an entry. -/
theorem next_at (R I X : FVec Ideal S32x2048 .f32) (lam : FVec Ideal S2048 .f32) (h0 : FVec Ideal S32x2048 .f32) (b : Fin 32) (j : Fin 2048)
    (u w : EReal) (hR : R (ix2 b j) = sg u) (hI : I (ix2 b j) = sg w) :
    NEXT R I X lam h0 (ix2 b j) = nxt u w (lam (ix1 j)) (X (ix2 b j)) (h0 (ix2 b j)) := by
  have hl := logsig_at lam j
  have hla : LOGA R lam (ix2 b j) = la u (lam (ix1 j)) := by
    generalize hL : LOGSIG lam = L at hl
    pointwise [LOGA, hL]
    rw [hR, hl, la, ofBits_eight]
  generalize hA : LOGA R lam = A at hla
  pointwise [NEXT, hA]
  rw [hI, hla, ofBits_two]
  obtain ⟨p, hp, e⟩ := la_neg u (lam (ix1 j))
  rw [nxt, e, root_eq p hp, add_comm]

/-- The output at an entry. -/
theorem out_at (P : FVec Ideal S32x4096 .f32) (h : FVec Ideal S32x2048 .f32) (b : Fin 32) (j : Fin 2048) :
    OUT P h (ix2 b j) = h (ix2 b j) * (P (ix2 b ⟨2048 + j.val, by omega⟩) * sg (P (ix2 b ⟨2048 + j.val, by omega⟩))) := by
  pointwise [OUT]
  rw [sg, zero_sub]

end Ref

open Cert.Kernel9Ideal Cert.Kernel9Ideal.Gen

variable (m : (ℓ : Loc nD τ sig) → Buf (Elt Ideal) ℓ)

/-- The product of a block of rows and the two gates' matrices of a channel block. -/
theorem pay7_at (X : FVec Ideal S32x128 .f32) (w : Vec Ideal S1x128x256 .bf16) (b : Fin 32) (j : Fin 256) :
    k0_pay7 X w (ix2 b j) = ∑ k : Fin 128, X (ix2 b k) * w (ix3 0 k j) := by
  pointwise [k0_pay7]

/-- The second gate of a block at an entry. -/
theorem pay8_at (X : FVec Ideal S32x128 .f32) (g : Vec Ideal S1x128 .f32) (w : Vec Ideal S1x128x256 .bf16) (b : Fin 32) (j : Fin 128) :
    k0_pay8 X g w (ix2 b j) = sg (k0_pay7 X w (ix2 b ⟨128 + j.val, by omega⟩) + g (ix2 0 j)) := by
  generalize hM : k0_pay7 X w = M
  pointwise [k0_pay8, hM]
  rw [sg]

/-- The decay of a block at an entry. -/
theorem pay9_at (X : FVec Ideal S32x128 .f32) (l g : Vec Ideal S1x128 .f32) (w : Vec Ideal S1x128x256 .bf16) (b : Fin 32) (j : Fin 128) :
    k0_pay9 X (k0_pay5 l) (k0_pay6 l) (Scalar.ofBits .f32 0x00000000#32) g w (ix2 b j)
      = Ideal.exp (la (k0_pay7 X w (ix2 b ⟨j.val, by omega⟩) + g (ix2 0 j)) (l (ix2 0 j))) := by
  generalize hM : k0_pay7 X w = M
  pointwise [k0_pay9, k0_pay6, k0_pay5, k0_pay4, hM]
  rw [la, sg, spn, ofBits_eight]; rfl

/-- The new state of a block at an entry. -/
theorem pay1_at (X I D S : FVec Ideal S32x128 .f32) (h : Vec Ideal S32x128 .f32) (b : Fin 32) (j : Fin 128) :
    k0_pay1 X I D S h (ix2 b j) = D (ix2 b j) * h (ix2 b j) + root (S (ix2 b j)) * (I (ix2 b j) * X (ix2 b j)) := by
  pointwise [k0_pay1]
  rw [root]

/-- One minus the decay's square, of a block at an entry. -/
theorem pay10_at (X : FVec Ideal S32x128 .f32) (l k : FVec Ideal S1x128 .f32) (z : Ideal .f32) (g : Vec Ideal S1x128 .f32)
    (w : Vec Ideal S1x128x256 .bf16) (y : S32x128.Idx) :
    k0_pay10 X l k z g w y = 1 - k0_pay9 X l k z g w y * k0_pay9 X l k z g w y := by
  generalize hD : k0_pay9 X l k z g w = D
  pointwise [k0_pay10, hD]

/-- The output of a block at an entry. -/
theorem pay2_at (X I D S : FVec Ideal S32x128 .f32) (h z : Vec Ideal S32x128 .f32) (y : S32x128.Idx) :
    k0_pay2 X I D S h z y = k0_pay1 X I D S h y * (z y * sg (z y)) := by
  generalize hQ : k0_pay1 X I D S h = Q
  pointwise [k0_pay2, hQ]
  rw [sg]

/-- The channel block of a grid point. -/
def gp (t : Fin cfg0.N) : Fin 16 := ⟨t.val, (idx t).2.2.2.2.2.2.2.2.2.2.2.2⟩

/-- The array index of a block index. -/
theorem emb11 (t : Fin cfg0.N) (y : S32x128.Idx) : ((cfg0.win 11).blk t).view.emb y = ix2 (y 0) (col (gp t) (y 1)) := by
  blk_ext [idx t, col, gp]
/-- The array index of a block index. -/
theorem emb10 (t : Fin cfg0.N) (y : S32x128.Idx) : ((cfg0.win 10).blk t).view.emb y = ix2 (y 0) (col (gp t) (y 1)) := by
  blk_ext [idx t, col, gp]

/-- The convolution of a block. -/
def XB (c : Dev nD) (t : Fin cfg0.N) : FVec Ideal S32x128 .f32 :=
  k0_pay3 (View.ld (iblk m c 0 t) r0_0) (View.ld (iblk m c 3 t) r0_1) (View.ld (iblk m c 4 t) r0_2) (View.ld (iblk m c 2 t) r0_3)
    (View.ld (iblk m c 3 t) r0_4) (View.ld (iblk m c 2 t) r0_5) (View.ld (iblk m c 3 t) r0_6) (View.ld (iblk m c 2 t) r0_7)
    (View.ld (iblk m c 3 t) r0_8)

/-- It is the reference's convolution in that channel block. -/
theorem xb_at (c : Dev nD) (t : Fin cfg0.N) (b : Fin 32) (j : Fin 128) : XB m c t (ix2 b j) = XM m c (ix2 b (col (gp t) j)) :=
  (xc_point m c t (ix2 b j)).trans (congrArg (XM m c) (emb11 t (ix2 b j)))

/-- The two gates' matrices in the block point `t` is handed. -/
theorem w_at (c : Dev nD) (t : Fin cfg0.N) (k : Fin 128) (j : Fin 256) : View.ld (iblk m c 5 t) r0_9 (ix3 0 k j)
    = WAX (m ((c : Thread nD τ).loc main_arg4)) (m ((c : Thread nD τ).loc main_arg5)) (ix3 (gp t) k j) := by
  show (V m c main_v1) _ = _
  rw [V_main_v1]
  generalize WAX _ _ = W
  pointwise
  blk_point [idx t, gp]

/-- The left half of the two gates' matrices is the first gate's. -/
theorem wax_left (wa wx : FVec Ideal S16x128x128 .f32) (t : Fin 16) (k j : Fin 128) :
    WAX wa wx (ix3 t k ⟨j.val, by omega⟩) = wa (ix3 t k j) := by
  pointwise [WAX]

/-- The right half of the two gates' matrices is the second gate's. -/
theorem wax_right (wa wx : FVec Ideal S16x128x128 .f32) (t : Fin 16) (k j : Fin 128) :
    WAX wa wx (ix3 t k ⟨128 + j.val, by omega⟩) = wx (ix3 t k j) := by
  pointwise [WAX]

/-- The first gate's product. -/
theorem lin_left (c : Dev nD) (t : Fin cfg0.N) (b : Fin 32) (j : Fin 128) :
    k0_pay7 (XB m c t) (View.ld (iblk m c 5 t) r0_9) (ix2 b ⟨j.val, by omega⟩)
      = LIN (m ((c : Thread nD τ).loc main_arg4)) (XM m c) (ix2 b (col (gp t) j)) := by
  rw [pay7_at, lin_at]
  refine Finset.sum_congr rfl fun k _ => ?_
  rw [xb_at, w_at, wax_left, mul_comm]

/-- The second gate's product. -/
theorem lin_right (c : Dev nD) (t : Fin cfg0.N) (b : Fin 32) (j : Fin 128) :
    k0_pay7 (XB m c t) (View.ld (iblk m c 5 t) r0_9) (ix2 b ⟨128 + j.val, by omega⟩)
      = LIN (m ((c : Thread nD τ).loc main_arg5)) (XM m c) (ix2 b (col (gp t) j)) := by
  rw [pay7_at, lin_at]
  refine Finset.sum_congr rfl fun k _ => ?_
  rw [xb_at, w_at, wax_right, mul_comm]

/-- The gates' biases and the channels' parameters in the block point `t` is handed. -/
theorem ba_at (c : Dev nD) (t : Fin cfg0.N) (j : Fin 128) :
    View.ld (iblk m c 6 t) r0_2 (ix2 0 j) = m ((c : Thread nD τ).loc main_arg6) (ix1 (col (gp t) j)) := by
  show (V m c main_v4) _ = _
  rw [V_main_v4]; pointwise; blk_point [idx t, gp, col]
theorem bx_at (c : Dev nD) (t : Fin cfg0.N) (j : Fin 128) :
    View.ld (iblk m c 7 t) r0_2 (ix2 0 j) = m ((c : Thread nD τ).loc main_arg7) (ix1 (col (gp t) j)) := by
  show (V m c main_v5) _ = _
  rw [V_main_v5]; pointwise; blk_point [idx t, gp, col]
theorem lam_at (c : Dev nD) (t : Fin cfg0.N) (j : Fin 128) :
    View.ld (iblk m c 8 t) r0_2 (ix2 0 j) = m ((c : Thread nD τ).loc main_arg8) (ix1 (col (gp t) j)) := by
  show (V m c main_v6) _ = _
  rw [V_main_v6]; pointwise; blk_point [idx t, gp, col]

/-- The old state and the gate's columns in the block point `t` is handed. -/
theorem h0_at (c : Dev nD) (t : Fin cfg0.N) (b : Fin 32) (j : Fin 128) :
    iblk m c 9 t (ix2 b j) = m ((c : Thread nD τ).loc main_arg9) (ix2 b (col (gp t) j)) := by
  blk_point [iblk, V_main_arg9, idx t, gp, col]
theorem z_at (c : Dev nD) (t : Fin cfg0.N) (b : Fin 32) (j : Fin 128) : iblk m c 1 t (ix2 b j)
    = m ((c : Thread nD τ).loc main_arg0) (ix2 b ⟨2048 + (col (gp t) j).val, by omega⟩) := by
  blk_point [iblk, V_main_arg0, idx t, gp, col]

/-- The new state from the kernel's arguments as launched. -/
def HM (c : Dev nD) : FVec Ideal S32x2048 .f32 := H (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9))

/-- What point `t` stores as the new state. -/
def SB (c : Dev nD) (t : Fin cfg0.N) : FVec Ideal S32x128 .f32 :=
  k0_pay1 (XB m c t) (k0_pay8 (XB m c t) (View.ld (iblk m c 7 t) r0_2) (View.ld (iblk m c 5 t) r0_9))
    (k0_pay9 (XB m c t) (k0_pay5 (View.ld (iblk m c 8 t) r0_2)) (k0_pay6 (View.ld (iblk m c 8 t) r0_2)) (Scalar.ofBits .f32 0x00000000#32)
      (View.ld (iblk m c 6 t) r0_2) (View.ld (iblk m c 5 t) r0_9))
    (k0_pay10 (XB m c t) (k0_pay5 (View.ld (iblk m c 8 t) r0_2)) (k0_pay6 (View.ld (iblk m c 8 t) r0_2)) (Scalar.ofBits .f32 0x00000000#32)
      (View.ld (iblk m c 6 t) r0_2) (View.ld (iblk m c 5 t) r0_9))
    (iblk m c 9 t)

/-- It is the reference's new state in that channel block. -/
theorem sb_at (c : Dev nD) (t : Fin cfg0.N) (b : Fin 32) (j : Fin 128) : SB m c t (ix2 b j) = HM m c (ix2 b (col (gp t) j)) := by
  have e : HM m c (ix2 b (col (gp t) j)) = _ := next_at _ _ _ _ _ b (col (gp t) j) _ _ (gate_at _ _ _ b _) (gate_at _ _ _ b _)
  rw [e, SB, pay1_at, pay10_at, pay9_at, pay8_at, lin_left, lin_right, ba_at, bx_at, lam_at, h0_at, xb_at, nxt]
  rfl

/-- The second result array after the run is the reference's new state. -/
theorem finalState (c : Dev nD) : (dats m 0 c).arrAt 11 (cfgs 0).N = HM m c := by
  refine (dats m 0 c).arrAt_eq_of_covers 11 _ (by decide +kernel) fun t _ y => ?_
  blk_simp
  rw [after0_11]; frame_out
  have hy : (y : S32x128.Idx) = ix2 (y 0) (y 1) := by blk_ext
  exact ((congrArg (SB m c t) hy).trans (sb_at m c t (y 0) (y 1))).trans (congrArg (HM m c) (emb11 t y).symm)

/-- The gate's columns point `t` is handed. -/
def ZB (c : Dev nD) (t : Fin cfg0.N) : FVec Ideal S32x128 .f32 := iblk m c 1 t

/-- The output point `t` computes from its new state is the reference's in that channel block. -/
theorem out_point (c : Dev nD) (t : Fin cfg0.N) (b : Fin 32) (j : Fin 128) :
    SB m c t (ix2 b j) * (ZB m c t (ix2 b j) * sg (ZB m c t (ix2 b j)))
      = OUT (m ((c : Thread nD τ).loc main_arg0)) (HM m c) (ix2 b (col (gp t) j)) := by
  have hz : ZB m c t (ix2 b j) = _ := z_at m c t b j
  rw [out_at, sb_at, hz]

/-- The output point `t` stores at block index `y` is the reference's at the array index of `y`. -/
theorem out_emb (c : Dev nD) (t : Fin cfg0.N) (y : S32x128.Idx) : SB m c t y * (ZB m c t y * sg (ZB m c t y))
    = OUT (m ((c : Thread nD τ).loc main_arg0)) (HM m c) (((cfg0.win 10).blk t).view.emb y) := by
  have hy : y = ix2 (y 0) (y 1) := by blk_ext
  exact ((congrArg (fun z => SB m c t z * (ZB m c t z * sg (ZB m c t z))) hy).trans (out_point m c t (y 0) (y 1))).trans
    (congrArg (OUT _ (HM m c)) (emb10 t y).symm)

/-- The first result array after the run is the reference's output. -/
theorem final (c : Dev nD) : (dats m 0 c).arrAt 10 (cfgs 0).N = OUT (m ((c : Thread nD τ).loc main_arg0)) (HM m c) := by
  refine (dats m 0 c).arrAt_eq_of_covers 10 _ (by decide +kernel) fun t _ y => ?_
  blk_simp
  rw [after0_10]; frame_out
  exact (pay2_at _ _ _ _ _ _ y).trans (out_emb m c t y)

/-- The stacked states after the run: the first layer's as given, the second layer's the new state. -/
theorem finalStack (c : Dev nD) : Pipeline.afterTail₀ cfgs (dats m) 0 (V0 m) [hostOps1] c main_v10
    = STACK (m ((c : Thread nD τ).loc main_arg10)) (HM m c) := by
  rw [← finalState m c]
  unfold Pipeline.afterTail₀
  show StableHlo.after hostOps1 _ _ = _
  after_results
  rw [show Pipeline.withArrays (cfgs 0).spec c (V0 m c) (fun w => (dats m 0 c).arrAt w (cfgs 0).N) (Proc.devRef .tc main_v7_1)
        = (dats m 0 c).arrAt 11 (cfgs 0).N from (dats m 0 c).withArrays_arrAt sharedIn0 (V0 m c) (A_eq m c) 11,
    show Pipeline.withArrays (cfgs 0).spec c (V0 m c) (fun w => (dats m 0 c).arrAt w (cfgs 0).N) (Proc.devRef .tc main_arg10)
        = m ((c : Thread nD τ).loc main_arg10) from
      (Pipeline.withArrays_of_ne spec0 c _ _ main_arg10 (by exact (by decide : ∀ w, Pipeline.arrRef spec0 w ≠ main_arg10))).trans
        (V_main_arg10 m c)]
  rfl

end Cert.Proof.LruSample

end
-- ==== Proof.Outproj3.lean ====
/-
  The output projection of one even layer: the residual rows plus the two branches' rows side by side times the output matrix,
  and the root-mean-square norm of the sum for the next layer, 384 rows at a grid point. The kernel's two results are
  the reference's two results.
-/
module

public import proofs.«01_k».proof.Proof.Gen.Kernel3Ideal.Frame
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Outproj3

section Ref
open Cert.Reference3Ideal Cert.Reference3Ideal.Gen

/-- The reference's first result: the residual plus the product. -/
def Y (A : FVec Ideal S16512x1024 .bf16) (B : FVec Ideal S16512x1024 .bf16) (W : FVec Ideal S2048x1024 .f32) (X : FVec Ideal S16512x1024 .f32) : FVec Ideal S16512x1024 .f32 :=
  addf X (Host.dotGeneral dot_S16512x2048_S2048x1024_S16512x1024_1_0_0_1_n_n none (extf .f32 (concatenate S16512x2048 1 [⟨S16512x1024, A⟩, ⟨S16512x1024, B⟩] concatenates_S16512x1024_S16512x1024_S16512x2048_d1) bitsLt_bf16_f32) W)

/-- The reference's second result: the norm of the first, row by row. -/
def NRM (A : FVec Ideal S16512x1024 .bf16) (B : FVec Ideal S16512x1024 .bf16) (W : FVec Ideal S2048x1024 .f32) (X : FVec Ideal S16512x1024 .f32) (NW : FVec Ideal S1024 .f32) : FVec Ideal S16512x1024 .bf16 :=
  truncf .bf16 (mulf (mulf (Y A B W X) (broadcastInDim S16512x1024 ![0, 1] bcast_S16512x1_S16512x1024_0_1 (Host.rsqrt (addf (Host.divf (broadcastInDim S16512x1 ![0] bcast_S16512_S16512x1_0 (Host.reduceAdd (mulf (Y A B W X) (Y A B W X)) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 NW))) bitsLt_bf16_f32

end Ref

open Cert.Kernel3Ideal Cert.Kernel3Ideal.Gen

variable (m : (ℓ : Loc nD τ sig) → Buf (Elt Ideal) ℓ)

/-- Which block each window holds at grid point `t`. -/
theorem idx : ∀ t : Fin cfg0.N, win0_0.index t = ![t.val, 0] ∧ win0_1.index t = ![t.val, 0] ∧ win0_3.index t = ![t.val, 0] ∧ win0_5.index t = ![t.val, 0] ∧ win0_6.index t = ![t.val, 0]
    ∧ win0_2.index t = ![0, 0] ∧ win0_4.index t = ![0, 0] :=
  (by decide +kernel : ∀ t : Fin grid0.N, _)

/-- The first result array after the run is the reference's first result. -/
theorem final1 (c : Dev nD) : (dats m 0 c).arrAt 5 (cfgs 0).N
    = Y (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, Y]
  simp only [add_assoc]
  blk_point [iblk, V_main_arg0, V_main_arg1, V_main_arg3, idx t]

/-- The second result array after the run is the reference's second result. -/
theorem final2 (c : Dev nD) : (dats m 0 c).arrAt 6 (cfgs 0).N
    = NRM (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay2, k0_pay1, NRM, Y]
  simp only [add_assoc]
  blk_point [iblk, V_main_arg0, V_main_arg1, V_main_arg3, idx t]

end Cert.Proof.Outproj3

end
-- ==== Proof.Outproj4.lean ====
/-
  The output projection of one odd layer: the residual rows plus the branch's rows times the output matrix,
  and the root-mean-square norm of the sum for the next layer, 384 rows at a grid point. The kernel's two results are
  the reference's two results.
-/
module

public import proofs.«01_k».proof.Proof.Gen.Kernel4Ideal.Frame
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Outproj4

section Ref
open Cert.Reference4Ideal Cert.Reference4Ideal.Gen

/-- The reference's first result: the residual plus the product. -/
def Y (A : FVec Ideal S16512x2048 .bf16) (W : FVec Ideal S2048x1024 .f32) (X : FVec Ideal S16512x1024 .f32) : FVec Ideal S16512x1024 .f32 :=
  addf X (Host.dotGeneral dot_S16512x2048_S2048x1024_S16512x1024_1_0_0_1_n_n none (extf .f32 A bitsLt_bf16_f32) W)

/-- The reference's second result: the norm of the first, row by row. -/
def NRM (A : FVec Ideal S16512x2048 .bf16) (W : FVec Ideal S2048x1024 .f32) (X : FVec Ideal S16512x1024 .f32) (NW : FVec Ideal S1024 .f32) : FVec Ideal S16512x1024 .bf16 :=
  truncf .bf16 (mulf (mulf (Y A W X) (broadcastInDim S16512x1024 ![0, 1] bcast_S16512x1_S16512x1024_0_1 (Host.rsqrt (addf (Host.divf (broadcastInDim S16512x1 ![0] bcast_S16512_S16512x1_0 (Host.reduceAdd (mulf (Y A W X) (Y A W X)) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 NW))) bitsLt_bf16_f32

end Ref

open Cert.Kernel4Ideal Cert.Kernel4Ideal.Gen

variable (m : (ℓ : Loc nD τ sig) → Buf (Elt Ideal) ℓ)

/-- Which block each window holds at grid point `t`. -/
theorem idx : ∀ t : Fin cfg0.N, win0_0.index t = ![t.val, 0] ∧ win0_2.index t = ![t.val, 0] ∧ win0_4.index t = ![t.val, 0] ∧ win0_5.index t = ![t.val, 0]
    ∧ win0_1.index t = ![0, 0] ∧ win0_3.index t = ![0, 0] :=
  (by decide +kernel : ∀ t : Fin grid0.N, _)

/-- The first result array after the run is the reference's first result. -/
theorem final1 (c : Dev nD) : (dats m 0 c).arrAt 4 (cfgs 0).N
    = Y (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, Y]
  blk_point [iblk, V_main_arg0, V_main_arg2, idx t]

/-- The second result array after the run is the reference's second result. -/
theorem final2 (c : Dev nD) : (dats m 0 c).arrAt 5 (cfgs 0).N
    = NRM (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay2, k0_pay1, NRM, Y]
  blk_point [iblk, V_main_arg0, V_main_arg2, idx t]

end Cert.Proof.Outproj4

end
-- ==== Proof.InprojEvenIdeal.lean ====
/-
  The input projection of one even layer, the run read at the ideal instance's printing: on a grid of 8 row blocks by 16 column blocks each point computes a
  2064 by 512 block of the wide product; the narrow product (16 gate columns) of a row block is computed at the first of
  its 16 points and stays in its staging buffer until the last one, which writes it back.
-/
module

public import proofs.«01_k».proof.Proof.Gen.Kernel5Ideal.Frame
public import proofs.«01_k».proof.Proof.Gen.Kernel5Ideal.Skeleton
public import Idealize.ShloMosaic.Lib.Pipeline.TableIdle
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel5Ideal.Hand

open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The rows' rectangle: the whole block. -/
abbrev rX : Rect S2064x1024 := Rect.unit (s := S2064x1024) ![0, 0] S2064x1024.size inb_S2064x1024_S2064x1024_0_0
/-- The wide weights' rectangle: the whole block. -/
abbrev rW : Rect S1x1024x512 := Rect.unit (s := S1x1024x512) ![0, 0, 0] S1x1024x512.size inb_S1x1024x512_S1x1024x512_0_0_0
/-- The gate weights' rectangle: the whole block. -/
abbrev rG : Rect S1024x16 := Rect.unit (s := S1024x16) ![0, 0] S1024x16.size inb_S1024x16_S1024x16_0_0
/-- The wide result's rectangle: the whole block. -/
abbrev rO : Rect S2064x512 := Rect.unit (s := S2064x512) ![0, 0] S2064x512.size inb_S2064x512_S2064x512_0_0
/-- The gates' rectangle: the whole block. -/
abbrev rQ : Rect S2064x16 := Rect.unit (s := S2064x16) ![0, 0] S2064x16.size inb_S2064x16_S2064x16_0_0

/-- The wide block after the body: the product of the rows and the weights. -/
def wide (x0 : Vec F S2064x1024 .bf16) (x1 : Vec F S1x1024x512 .f32) : Vec F S2064x512 .f32 :=
  View.canon [⟨rO, k0_pay2 (View.ld x0 rX) (View.ld x1 rW)⟩]

/-- The gates' block after a body that computes it. -/
def gates (x0 : Vec F S2064x1024 .bf16) (x2 : Vec F S1024x16 .f32) : Vec F S2064x16 .f32 :=
  View.canon [⟨rQ, k0_pay1 (View.ld x0 rX) (View.ld x2 rG)⟩]

/-- The wide block's one store covers it. -/
theorem cover_wide (p : Vec F S2064x512 .f32) (y : S2064x512.Idx) :
    ∃ pc ∈ ([⟨rO, p⟩] : List (View.Piece (Elt F) S2064x512 .f32)), y ∈ pc.1.set :=
  View.cover_of_tiled [⟨rO, p⟩] S2064x512.size (by rfl) y

/-- The gates' one store covers their block. -/
theorem cover_gates (p : Vec F S2064x16 .f32) (y : S2064x16.Idx) :
    ∃ pc ∈ ([⟨rQ, p⟩] : List (View.Piece (Elt F) S2064x16 .f32)), y ∈ pc.1.set :=
  View.cover_of_tiled [⟨rQ, p⟩] S2064x16.size (by rfl) y

/-! ## The body's triples -/

set_option maxHeartbeats 1000000 in
/-- The body at the first column block: it leaves both products. -/
theorem sound_first (c : Dev nD) (E : Set ℕ) (i : grid0.Coords) (hi : k0_cond1 i = 1#1) (arg2 : Memref sig .tc .vmem S2064x1024 .bf16) (harg2 : arg2.IsWhole) (arg3 : Memref sig .tc .vmem S1x1024x512 .f32) (harg3 : arg3.IsWhole) (arg4 : Memref sig .tc .vmem S1024x16 .f32) (harg4 : arg4.IsWhole) (arg5 : Memref sig .tc .vmem S2064x512 .f32) (harg5 : arg5.IsWhole) (arg6 : Memref sig .tc .vmem S2064x16 .f32) (harg6 : arg6.IsWhole)
    (x0 : Vec F S2064x1024 .bf16) (x1 : Vec F S1x1024x512 .f32) (x2 : Vec F S1024x16 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (wide x0 x1) ∗ owns (c : Thread nD τ) arg6 fullShare (gates x0 x2)) -∗ K ⟨⟩))
      ⊢ wp frame (wpE (defs₀ (F := F)) Variants.none c none) E (cc0_inproj i arg2 harg2 arg3 harg3 arg4 harg4 arg5 harg5 arg6 harg6) K := by
  simp only [cc0_inproj_eq_skeleton]; unfold cc0_inproj_skel
  rw [dif_pos hi]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_wide _)
  iexists _; isplitr
  swap; · iexact H4
  ipureintro
  exact View.read_writes_eq_canon _ _ _ (cover_gates _)

set_option maxHeartbeats 1000000 in
/-- The body at a later column block: it leaves the wide product, and the gates' block as found. -/
theorem sound_later (c : Dev nD) (E : Set ℕ) (i : grid0.Coords) (hi : ¬ k0_cond1 i = 1#1) (arg2 : Memref sig .tc .vmem S2064x1024 .bf16) (harg2 : arg2.IsWhole) (arg3 : Memref sig .tc .vmem S1x1024x512 .f32) (harg3 : arg3.IsWhole) (arg4 : Memref sig .tc .vmem S1024x16 .f32) (harg4 : arg4.IsWhole) (arg5 : Memref sig .tc .vmem S2064x512 .f32) (harg5 : arg5.IsWhole) (arg6 : Memref sig .tc .vmem S2064x16 .f32) (harg6 : arg6.IsWhole)
    (x0 : Vec F S2064x1024 .bf16) (x1 : Vec F S1x1024x512 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (wide x0 x1)) -∗ K ⟨⟩))
      ⊢ wp frame (wpE (defs₀ (F := F)) Variants.none c none) E (cc0_inproj i arg2 harg2 arg3 harg3 arg4 harg4 arg5 harg5 arg6 harg6) K := by
  simp only [cc0_inproj_eq_skeleton]; unfold cc0_inproj_skel
  rw [dif_neg hi]
  unfold owns
  iintro ⟨⟨%f0, %hf0, H0⟩, ⟨%f1, %hf1, H1⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact View.read_writes_eq_canon _ _ _ (cover_wide _)

/-! ## The pipeline's proof data -/

/-- The first point of the row block of point `t`. -/
def fst (t : Fin cfg0.N) : Fin cfg0.N := ⟨t.val / 16 * 16, Nat.lt_of_le_of_lt (Nat.div_mul_le_self _ _) t.isLt⟩

/-- The branch is taken at the first of 16 points. -/
theorem hcond : ∀ t : Fin cfg0.N, k0_cond1 (grid0.coords t) = 1#1 ↔ t.val % 16 = 0 :=
  (by decide +kernel : ∀ t : Fin grid0.N, k0_cond1 (grid0.coords t) = 1#1 ↔ t.val % 16 = 0)

/-- The proof data: each input's buffer at its block, the wide block of the point, the gates of the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => wide (iblk m c 0 t) (X0_1 m c t)
    | ⟨4, _⟩ => gates (iblk m c 0 (fst t)) (iblk m c 2 (fst t))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in window 0's buffer. -/
theorem after0_0 (c : Dev nD) (t : Fin cfg0.N) : (dats m 0 c).after 0 t = iblk m c 0 t := by dsimp only [dats]
/-- What the body leaves in window 1's buffer. -/
theorem after0_1 (c : Dev nD) (t : Fin cfg0.N) : (dats m 0 c).after 1 t = X0_1 m c t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = wide (iblk m c 0 t) (X0_1 m c t) := by dsimp only [dats]
/-- What the body leaves in window 4's buffer. -/
theorem after0_4 (c : Dev nD) (t : Fin cfg0.N) : (dats m 0 c).after 4 t = gates (iblk m c 0 (fst t)) (iblk m c 2 (fst t)) := by dsimp only [dats]

/-- The rows' buffer holds its block at every point. -/
theorem before0_0 (c : Dev nD) (t : Fin cfg0.N) (d) : (dats m 0 c).before 0 t d = iblk m c 0 t :=
  before0_0_of m (dats m 0 c) (A_eq m c 0) (after0_0 m c) t d
/-- The weights' buffer holds its block at every point. -/
theorem before0_1 (c : Dev nD) (t : Fin cfg0.N) (d) : (dats m 0 c).before 1 t d = X0_1 m c t :=
  before0_1_of m (dats m 0 c) (A_eq m c 1) (after0_1 m c) t d
/-- The gate weights' buffer holds its block at every point. -/
theorem before0_2 (c : Dev nD) (t : Fin cfg0.N) (d) : (dats m 0 c).before 2 t d = iblk m c 2 t :=
  before0_2_of m (dats m 0 c) (A_eq m c 2) (after0_2 m c) t d

/-- The gates' buffer is stored at the first point of a row block only. -/
theorem idle_iff (t : Fin cfg0.N) : cfg0.idle 4 (cfg0.grid.coords t) = true ↔ ¬ t.val % 16 = 0 := by
  rw [← hcond t]
  show (!(k0_cond1 (grid0.coords t) == 1#1)) = true ↔ _
  simp

/-- The gates' buffer holds nothing stored exactly at the first point of a row block. -/
theorem fresh_eq (n : ℕ) (hn : n ≤ cfg0.N) : cfg0.fresh 4 n = decide (n % 16 = 0) :=
  Pipeline.Cfg.fresh_tab cfg0 4 (fun n => decide (n % 16 = 0)) rfl (fun t => by
    have hf := flush0_4 t
    have hi := idle_iff t
    rw [Bool.eq_iff_iff]
    simp only [decide_eq_true_eq, Bool.or_eq_true, Bool.and_eq_true]
    rw [hf, hi]
    omega) n hn

/-- A later point of a row block has the first of the point before. -/
theorem fst_pred (t : Fin cfg0.N) (ht : ¬ t.val % 16 = 0) (h : t.val - 1 < cfg0.N) : fst ⟨t.val - 1, h⟩ = fst t :=
  Fin.ext (by simp only [fst]; omega)

/-- At a point that is not the first of its row block the gates' buffer holds that row block's gates. -/
theorem before0_4 (c : Dev nD) (t : Fin cfg0.N) (ht : ¬ t.val % 16 = 0) (d) :
    (dats m 0 c).before 4 t d = gates (iblk m c 0 (fst t)) (iblk m c 2 (fst t)) := by
  rw [(dats m 0 c).before_out_traj 4 rfl (fun _ _ => rfl)
    (fun t _ hi _ => by rw [after0_4, after0_4, fst_pred t ((idle_iff t).mp hi)]) t.val t rfl d,
    fresh_eq t.val (Nat.le_of_lt t.isLt), if_neg (by simpa using ht), after0_4, fst_pred t ht]

/-- The first of its row block is its own first. -/
theorem fst_eq (t : Fin cfg0.N) (ht : t.val % 16 = 0) : fst t = t := Fin.ext (by simp only [fst]; omega)

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases ht : t.val % 16 = 0
  · rw [fst_eq t ht]
    iintro ⟨HΦ, Ho, ⟨%d0, H0⟩, ⟨%d1, H1⟩, ⟨%d2, H2⟩, ⟨%d3, H3⟩, ⟨%d4, H4⟩⟩
    iapply (sound_first c Set.univ (grid0.coords t) ((hcond t).mpr ht) _ _ _ _ _ _ _ _ _ _ (iblk m c 0 t) (X0_1 m c t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_4 m c t ht]
    iintro ⟨HΦ, Ho, ⟨%d0, H0⟩, ⟨%d1, H1⟩, ⟨%d2, H2⟩, ⟨%d3, H3⟩, ⟨%d4, H4⟩⟩
    iapply (sound_later c Set.univ (grid0.coords t) (fun h => ht ((hcond t).mp h)) _ _ _ _ _ _ _ _ _ _ (iblk m c 0 t) (X0_1 m c t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- What the obligation asks of the gates' buffer holds of the row block's gates: at a point that neither stores nor
    writes back, they are what the point found. -/
theorem handed (c : Dev nD) (t : Fin cfg0.N) :
    owns (c : Thread nD τ) (st0_4 t) fullShare ((dats m 0 c).after 4 t) ⊢
      (match cfg0.idle 4 (cfg0.grid.coords t) with
        | true => (match (cfg0.win 4).flush t with
          | false => iprop(∃ d, owns (c : Thread nD τ) (st0_4 t) fullShare ((dats m 0 c).before 4 t d))
          | true => owns (c : Thread nD τ) (st0_4 t) fullShare ((dats m 0 c).after 4 t))
        | false => owns (c : Thread nD τ) (st0_4 t) fullShare ((dats m 0 c).after 4 t) : sProp 𝕄) := by
  cases hi : cfg0.idle 4 (cfg0.grid.coords t)
  · exact .rfl
  · cases hf : (cfg0.win 4).flush t
    · iintro H
      iexists (dats m 0 c).after 4 t
      rw [before0_4 m c t ((idle_iff t).mp hi), after0_4]
      iexact H
    · exact .rfl

/-- The body obligation at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (handed m c t)
  iexact H4

/-! ## The run and the frame -/

set_option backward.isDefEq.respectTransparency.types false in
set_option maxHeartbeats 800000 in
/-- The run: every array of the pipeline ends at what the proof data says, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Kernel5Ideal.Hand

end
-- ==== Proof.InprojEvenValue.lean ====
/-
  The input projection of one even layer, the values: the wide result is the first 8192 columns of the rows times the
  layer's matrix and the narrow result is the last 16.
-/
module

public import proofs.«01_k».proof.Proof.InprojEvenIdeal
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InprojEven

section Ref
open Cert.Reference5Ideal Cert.Reference5Ideal.Gen

/-- The reference's product: the rows times layer 0's matrix. -/
def PROD (X : FVec Ideal S16512x1024 .bf16) (W : FVec Ideal S2x1024x8208 .f32) : FVec Ideal S16512x8208 .f32 :=
  Host.dotGeneral dot_S16512x1024_S1024x8208_S16512x8208_1_0_0_1_n_n none (extf .f32 X bitsLt_bf16_f32)
    (shapeCast _ (extractStridedSlice S1x1024x8208 ![0, 0, 0] W slices_S2x1024x8208_S1x1024x8208_0_0_0) shapeCasts_S1x1024x8208_S1024x8208)

/-- The reference's first result: the first 8192 columns. -/
def REF1 (X : FVec Ideal S16512x1024 .bf16) (W : FVec Ideal S2x1024x8208 .f32) : FVec Ideal S16512x8192 .f32 :=
  extractStridedSlice S16512x8192 ![0, 0] (PROD X W) slices_S16512x8208_S16512x8192_0_0

/-- The reference's second result: the last 16 columns. -/
def REF2 (X : FVec Ideal S16512x1024 .bf16) (W : FVec Ideal S2x1024x8208 .f32) : FVec Ideal S16512x16 .f32 :=
  extractStridedSlice S16512x16 ![0, 8192] (PROD X W) slices_S16512x8208_S16512x16_0_8192

end Ref

open Cert.Kernel5Ideal Cert.Kernel5Ideal.Gen Cert.Kernel5Ideal.Hand

variable (m : (ℓ : Loc nD τ sig) → Buf (Elt Ideal) ℓ)

/-- Which block each window holds at grid point `t`. -/
theorem idx : ∀ t : Fin cfg0.N, win0_0.index t = ![t.val / 16, 0] ∧ win0_1.index t = ![0, 0, t.val % 16]
    ∧ win0_2.index t = ![0, 0] ∧ win0_3.index t = ![t.val / 16, t.val % 16] ∧ win0_4.index t = ![t.val / 16, 0] ∧ t.val / 16 < 8 :=
  (by decide +kernel : ∀ t : Fin grid0.N, _)

/-- The first result array after the run is the reference's first result. -/
theorem final1 (c : Dev nD) : (dats m 0 c).arrAt 3 (cfgs 0).N
    = REF1 (m ((c : Thread nD τ).loc main_arg0)) (m ((c : Thread nD τ).loc main_arg1)) := by
  refine (dats m 0 c).arrAt_eq_of_covers 3 _ (by decide +kernel) fun t _ y => ?_
  blk_simp
  rw [after0_3]; unfold wide; frame_out
  pointwise [k0_pay2, REF1, PROD]
  blk_point [iblk, X0_1, V_main_arg0, V_main_arg1, idx t]
  refine (dif_pos (moved0_1 t _)).trans ?_
  blk_point [iblk, V_main_arg1, idx t]

/-- The second result array after the run is the reference's second result. -/
theorem final2 (c : Dev nD) : (dats m 0 c).arrAt 4 (cfgs 0).N
    = REF2 (m ((c : Thread nD τ).loc main_arg0)) (m ((c : Thread nD τ).loc main_arg1)) := by
  refine (dats m 0 c).arrAt_eq_of_covers 4 _ (by decide +kernel) fun t _ y => ?_
  blk_simp
  rw [after0_4]; unfold gates; frame_out
  pointwise [k0_pay1, REF2, PROD]
  blk_point [iblk, V_main_arg0, V_main_arg1, idx t, idx (fst t)]
  simp only [fst]
  omega

end Cert.Proof.InprojEven

end
-- ==== Proof.FinalNorm6.lean ====
/-
  The final norm of the prompt: rows 16 on of each of the 8 sequences, normed row by row and scaled by the weight vector,
  on a grid of 8 sequences by 4 blocks of 512 rows.
-/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.FinalNorm6

section Ref
open Cert.Reference6Ideal Cert.Reference6Ideal.Gen

/-- The reference's result: each row over the root of its mean square, times the weight vector. -/
def REF (X : FVec Ideal S8x2064x1024 .f32) (W : FVec Ideal S1024 .f32) : FVec Ideal S8x2048x1024 .f32 :=
  extractStridedSlice S8x2048x1024 ![0, 16, 0] (mulf (mulf X (broadcastInDim S8x2064x1024 ![0, 1, 2] bcast_S8x2064x1_S8x2064x1024_0_1_2 (Host.rsqrt (addf (Host.divf (broadcastInDim S8x2064x1 ![0, 1] bcast_S8x2064_S8x2064x1_0_1 (Host.reduceAdd (mulf X X) (constant S_ .f32 0x00000000#32) reducesTo_S8x2064x1024_S8x2064_d2 h_S_)) (broadcastInDim S8x2064x1 ![] bcast_S_S8x2064x1 (constant S_ .f32 0x44800000#32))) (broadcastInDim S8x2064x1 ![] bcast_S_S8x2064x1 (constant S_ .f32 0x358637BD#32)))))) (broadcastInDim S8x2064x1024 ![0, 1, 2] bcast_S1x1x1024_S8x2064x1024_0_1_2 (broadcastInDim S1x1x1024 ![2] bcast_S1024_S1x1x1024_2 W))) slices_S8x2064x1024_S8x2048x1024_0_16_0

end Ref

open Cert.Kernel6Ideal Cert.Kernel6Ideal.Gen

variable (m : (ℓ : Loc nD τ sig) → Buf (Elt Ideal) ℓ)

/-- Which block each window holds at grid point `t`, and the row its load starts at. -/
theorem idx : ∀ t : Fin cfg0.N, win0_0.index t = ![t.val / 4, 0, 0] ∧ win0_1.index t = ![0, 0] ∧ win0_2.index t = ![t.val / 4, t.val % 4, 0]
    ∧ k0_off1 (grid0.coords t) = ![0, 16 + 512 * (t.val % 4), 0] ∧ t.val / 4 < 8 :=
  (by decide +kernel : ∀ t : Fin grid0.N, _)

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, REF]
  blk_point [iblk, V_main_arg0, idx t]

end Cert.Proof.FinalNorm6

end
-- ==== Proof.FinalNorm7.lean ====
/-
  The final norm of the samples: 32 rows, normed row by row and scaled by the weight vector, at one grid point.
-/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.FinalNorm7

section Ref
open Cert.Reference7Ideal Cert.Reference7Ideal.Gen

/-- The reference's result: each row over the root of its mean square, times the weight vector. -/
def REF (X : FVec Ideal S1x32x1024 .f32) (W : FVec Ideal S1024 .f32) : FVec Ideal S1x32x1024 .f32 :=
  mulf (mulf X (broadcastInDim S1x32x1024 ![0, 1, 2] bcast_S1x32x1_S1x32x1024_0_1_2 (Host.rsqrt (addf (Host.divf (broadcastInDim S1x32x1 ![0, 1] bcast_S1x32_S1x32x1_0_1 (Host.reduceAdd (mulf X X) (constant S_ .f32 0x00000000#32) reducesTo_S1x32x1024_S1x32_d2 h_S_)) (broadcastInDim S1x32x1 ![] bcast_S_S1x32x1 (constant S_ .f32 0x44800000#32))) (broadcastInDim S1x32x1 ![] bcast_S_S1x32x1 (constant S_ .f32 0x358637BD#32)))))) (broadcastInDim S1x32x1024 ![0, 1, 2] bcast_S1x1x1024_S1x32x1024_0_1_2 (broadcastInDim S1x1x1024 ![2] bcast_S1024_S1x1x1024_2 W))

end Ref

open Cert.Kernel7Ideal Cert.Kernel7Ideal.Gen

variable (m : (ℓ : Loc nD τ sig) → Buf (Elt Ideal) ℓ)

/-- Which block each window holds at grid point `t`, and the row its load starts at. -/
theorem idx : ∀ t : Fin cfg0.N, win0_0.index t = ![0, 0, 0] ∧ win0_1.index t = ![0, 0] ∧ win0_2.index t = ![0, 0, 0]
    ∧ k0_off1 (grid0.coords t) = ![0, 0, 0] :=
  (by decide +kernel : ∀ t : Fin grid0.N, _)

/-- The result array after the run is the reference's result. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, REF]
  blk_point [iblk, V_main_arg0, idx t]

end Cert.Proof.FinalNorm7

end
-- ==== Proof.lean ====
/-
  The claims of the layer's calls: every program runs to its end leaving its arguments as they were, and each call and its
  reference end with the same results over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Kernel6Ideal.Value
public import proofs.«01_k».proof.Proof.Gen.Reference7Ideal.Run
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference8Ideal.Run
public import proofs.«01_k».proof.Proof.Gen.Reference9Ideal.Run
public import proofs.«01_k».proof.Proof.StickBreakingRun
public import proofs.«01_k».proof.Proof.StickBreakingRunIdeal
public import proofs.«01_k».proof.Proof.StickBreakingValue
public import proofs.«01_k».proof.Proof.Inproj
public import proofs.«01_k».proof.Proof.InprojSample
public import proofs.«01_k».proof.Proof.LruSampleValue
public import proofs.«01_k».proof.Proof.Outproj3
public import proofs.«01_k».proof.Proof.Outproj4
public import proofs.«01_k».proof.Proof.InprojEven
public import proofs.«01_k».proof.Proof.InprojEvenIdeal
public import proofs.«01_k».proof.Proof.InprojEvenValue
public import proofs.«01_k».proof.Proof.FinalNorm6
public import proofs.«01_k».proof.Proof.FinalNorm7

@[expose] public section

noncomputable section

namespace Cert.Proof

open Idealize.ShloMosaic Idealize.SL.Sem

/-- The reference of the attention call runs to its end, leaves its arguments as they were and every counter at zero. -/
theorem frame_r1 : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The attention call and its reference end with the same results over the extended reals. -/
theorem value1 : Cert.algebraic_KernelIdeal_ReferenceIdeal := by
  pair_intro
  · run_from Cert.KernelIdeal.Hand.run_main m g
  · run_from Cert.ReferenceIdeal.Value.run m' g'
    · refine (Cert.Proof.StickBreaking.res_eq m' c).trans ?_
      rw [(hagree c).1, (hagree c).2.1]
      exact (Cert.Proof.StickBreaking.final1 m c).symm
    · refine Eq.trans ?_ (Cert.Proof.StickBreaking.final2 m c).symm
      exact congrArg (Cert.Proof.StickBreaking.SLAB · _) (hagree c).2.2.1
    · refine Eq.trans ?_ (Cert.Proof.StickBreaking.final3 m c).symm
      exact congrArg (Cert.Proof.StickBreaking.SLAB · _) (hagree c).2.2.2

/-- The reference of the odd input projection runs to its end, leaves its arguments as they were and every counter at zero. -/
theorem frame_r2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The odd input projection and its reference end with the same result over the extended reals. -/
theorem value2 : Cert.algebraic_Kernel2Ideal_Reference2Ideal := by
  pair_intro
  · run_from Cert.Kernel2Ideal.Gen.run_main m g
    · exact Cert.Kernel2Ideal.Gen.W_main_arg2 m _ c
  · run_from Cert.Reference2Ideal.Value.run m' g'
    · exact (shapeCast_shapeCast _ _ _).trans (Cert.Proof.Inproj.final m c).symm
    · refine Eq.trans ?_ (Cert.Proof.Inproj.finalStack m c).symm
      exact congrArg (Cert.Proof.Inproj.STACK · _) (hagree c).2.2

/-- The reference of the even output projection runs to its end, leaves its arguments as they were and every counter at zero. -/
theorem frame_r3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The even output projection and its reference end with the same results over the extended reals. -/
theorem value3 : Cert.algebraic_Kernel3Ideal_Reference3Ideal := by
  pair_intro
  · run_from Cert.Kernel3Ideal.Gen.run_main m g
  · run_from Cert.Reference3Ideal.Value.run m' g'
    · exact (Cert.Proof.Outproj3.final1 m c).symm
    · exact (Cert.Proof.Outproj3.final2 m c).symm

/-- The reference of the odd output projection runs to its end, leaves its arguments as they were and every counter at zero. -/
theorem frame_r4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The odd output projection and its reference end with the same results over the extended reals. -/
theorem value4 : Cert.algebraic_Kernel4Ideal_Reference4Ideal := by
  pair_intro
  · run_from Cert.Kernel4Ideal.Gen.run_main m g
  · run_from Cert.Reference4Ideal.Value.run m' g'
    · exact (Cert.Proof.Outproj4.final1 m c).symm
    · exact (Cert.Proof.Outproj4.final2 m c).symm

/-- The reference of the even input projection runs to its end, leaves its arguments as they were and every counter at zero. -/
theorem frame_r5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- The even input projection and its reference end with the same results over the extended reals. -/
theorem value5 : Cert.algebraic_Kernel5Ideal_Reference5Ideal := by
  pair_intro
  · run_from Cert.Kernel5Ideal.Hand.run_main m g
  · run_from Cert.Reference5Ideal.Value.run m' g'
    · exact (Cert.Proof.InprojEven.final1 m c).symm
    · exact (Cert.Proof.InprojEven.final2 m c).symm

/-- The reference of the prompt's final norm runs to its end, leaves its arguments as they were and every counter at zero. -/
theorem frame_r6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The prompt's final norm and its reference end with the same result over the extended reals. -/
theorem value6 : Cert.algebraic_Kernel6Ideal_Reference6Ideal := by
  pair_intro
  · run_from Cert.Kernel6Ideal.Gen.run_main m g
  · run_from Cert.Reference6Ideal.Value.run m' g'
    · exact (Cert.Proof.FinalNorm6.final m c).symm

/-- The reference of the samples' final norm runs to its end, leaves its arguments as they were and every counter at zero. -/
theorem frame_r7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The samples' final norm and its reference end with the same result over the extended reals. -/
theorem value7 : Cert.algebraic_Kernel7Ideal_Reference7Ideal := by
  pair_intro
  · run_from Cert.Kernel7Ideal.Gen.run_main m g
  · run_from Cert.Reference7Ideal.Value.run m' g'
    · exact (Cert.Proof.FinalNorm7.final m c).symm

/-- The reference of the samples' odd input projection runs to its end, leaves its arguments as they were and every counter at zero. -/
theorem frame_r8 : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

/-- The samples' odd input projection and its reference end with the same results over the extended reals. -/
theorem value8 : Cert.algebraic_Kernel8Ideal_Reference8Ideal := by
  pair_intro
  · run_from Cert.Kernel8Ideal.Gen.run_main m g
    · exact Cert.Kernel8Ideal.Gen.W_main_arg2 m _ c
    · exact Cert.Kernel8Ideal.Gen.W_main_arg3 m _ c
  · run_from Cert.Reference8Ideal.Value.run m' g'
    · exact (Cert.Proof.InprojSample.final m c).symm
    · refine Eq.trans ?_ (Cert.Proof.InprojSample.finalStack m c).symm
      exact congrArg (Cert.Proof.InprojSample.STACK · _) (hagree c).2.2.2

/-- The reference of the samples' gated recurrence runs to its end, leaves its arguments as they were and every counter at zero. -/
theorem frame_r9 : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

set_option maxHeartbeats 1000000 in
/-- The samples' gated recurrence and its reference end with the same results over the extended reals. -/
theorem value9 : Cert.algebraic_Kernel9Ideal_Reference9Ideal := by
  pair_intro
  · run_from Cert.Kernel9Ideal.Gen.run_main m g
    · exact Cert.Kernel9Ideal.Gen.W_main_arg1 m _ c
    · exact Cert.Kernel9Ideal.Gen.W_main_arg3 m _ c
    · exact Cert.Kernel9Ideal.Gen.W_main_arg4 m _ c
    · exact Cert.Kernel9Ideal.Gen.W_main_arg5 m _ c
    · exact Cert.Kernel9Ideal.Gen.W_main_arg6 m _ c
    · exact Cert.Kernel9Ideal.Gen.W_main_arg7 m _ c
    · exact Cert.Kernel9Ideal.Gen.W_main_arg8 m _ c
    · exact Cert.Kernel9Ideal.Gen.W_main_arg10 m _ c
  · run_from Cert.Reference9Ideal.Value.run m' g'
    · refine (Cert.Proof.LruSample.res0 m' c).trans (Eq.trans ?_ (Cert.Proof.LruSample.final m c).symm)
      obtain ⟨a0, a1, a2, a3, a4, a5, a6, a7, a8, a9, a10⟩ := hagree c
      rw [Cert.Proof.LruSample.Hm, Cert.Proof.LruSample.HM, a0, a1, a2, a3, a4, a5, a6, a7, a8, a9]
    · refine (Cert.Proof.LruSample.res1 m' c).trans (Eq.trans ?_ (Cert.Proof.LruSample.finalStack m c).symm)
      obtain ⟨a0, a1, a2, a3, a4, a5, a6, a7, a8, a9, a10⟩ := hagree c
      rw [Cert.Proof.LruSample.Hm, Cert.Proof.LruSample.HM, a0, a1, a2, a3, a4, a5, a6, a7, a8, a9, a10]

/-- The claim: each program's stated facts, its frame, and each pair's values. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  fun m ρ _ => Cert.Kernel.Hand.frame m ρ,
  fun m ρ _ => Cert.KernelIdeal.Hand.frame m ρ,
  frame_r1,
  fun m ρ _ => Cert.Kernel2.Gen.frame m ρ,
  fun m ρ _ => Cert.Kernel2Ideal.Gen.frame m ρ,
  frame_r2,
  fun m ρ _ => Cert.Kernel3.Gen.frame m ρ,
  fun m ρ _ => Cert.Kernel3Ideal.Gen.frame m ρ,
  frame_r3,
  fun m ρ _ => Cert.Kernel4.Gen.frame m ρ,
  fun m ρ _ => Cert.Kernel4Ideal.Gen.frame m ρ,
  frame_r4,
  fun m ρ _ => Cert.Kernel5.Hand.frame m ρ,
  fun m ρ _ => Cert.Kernel5Ideal.Hand.frame m ρ,
  frame_r5,
  fun m ρ _ => Cert.Kernel6.Gen.frame m ρ,
  fun m ρ _ => Cert.Kernel6Ideal.Gen.frame m ρ,
  frame_r6,
  fun m ρ _ => Cert.Kernel7.Gen.frame m ρ,
  fun m ρ _ => Cert.Kernel7Ideal.Gen.frame m ρ,
  frame_r7,
  fun m ρ _ => Cert.Kernel8.Gen.frame m ρ,
  fun m ρ _ => Cert.Kernel8Ideal.Gen.frame m ρ,
  frame_r8,
  fun m ρ _ => Cert.Kernel9.Gen.frame m ρ,
  fun m ρ _ => Cert.Kernel9Ideal.Gen.frame m ρ,
  frame_r9,
  trivial, value1, trivial, value2, trivial, value3, trivial, value4, trivial, value5, trivial, value6, trivial, value7, trivial, value8, trivial, value9⟩

end Cert.Proof

end
